-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S16384x128 : Shape := ⟨2, ![16384, 128]⟩
abbrev S16384x64 : Shape := ⟨2, ![16384, 64]⟩
abbrev S32 : Shape := ⟨1, ![32]⟩
abbrev S1024x192 : Shape := ⟨2, ![1024, 192]⟩
abbrev S1024 : Shape := ⟨1, ![1024]⟩
abbrev S1024x1024 : Shape := ⟨2, ![1024, 1024]⟩
abbrev S32x1024 : Shape := ⟨2, ![32, 1024]⟩
abbrev S_ : Shape := ⟨0, ![]⟩

class Facts : Prop where
  bcast_S_S1024 : S_.BroadcastsInDim S1024 (![] : Fin 0 → Fin S1024.rank)
  bcast_S_S32 : S_.BroadcastsInDim S32 (![] : Fin 0 → Fin S32.rank)

variable [Facts]

def fn {F : FTy → Type} [FloatOps F] (main_arg0 : FVec F S16384x128 .f32) (main_arg1 : FVec F S16384x64 .f32) (main_arg2 : FVec F S32 .f32) (main_arg3 : FVec F S1024x192 .f32) (main_arg4 : FVec F S1024 .f32) (main_arg5 : FVec F S1024x1024 .f32) (main_arg6 : FVec F S1024 .f32) (main_arg7 : FVec F S1024x1024 .f32) (main_arg8 : FVec F S1024 .f32) (main_arg9 : FVec F S32x1024 .f32) (main_arg10 : FVec F S32 .f32) : IVec S1024 1 × IVec S1024 1 × IVec S1024 1 × IVec S32 1 :=
  let main_cst : FVec F S_ .f32 := constant S_ .f32 0x00000000#32
  let main_v0 : FVec F S1024 .f32 := broadcastInDim S1024 ![] bcast_S_S1024 main_cst
  let main_v1 : IVec S1024 1 := cmpf .oeq main_arg4 main_v0
  let main_cst_0 : FVec F S_ .f32 := constant S_ .f32 0x00000000#32
  let main_v2 : FVec F S1024 .f32 := broadcastInDim S1024 ![] bcast_S_S1024 main_cst_0
  let main_v3 : IVec S1024 1 := cmpf .oeq main_arg6 main_v2
  let main_cst_1 : FVec F S_ .f32 := constant S_ .f32 0x00000000#32
  let main_v4 : FVec F S1024 .f32 := broadcastInDim S1024 ![] bcast_S_S1024 main_cst_1
  let main_v5 : IVec S1024 1 := cmpf .oeq main_arg8 main_v4
  let main_cst_2 : FVec F S_ .f32 := constant S_ .f32 0x00000000#32
  let main_v6 : FVec F S32 .f32 := broadcastInDim S32 ![] bcast_S_S32 main_cst_2
  let main_v7 : IVec S32 1 := cmpf .oeq main_arg10 main_v6
  (main_v1, main_v3, main_v5, main_v7)
-- ==== Kernel.lean ====
abbrev S16384x128 : Shape := ⟨2, ![16384, 128]⟩
abbrev S16384x64 : Shape := ⟨2, ![16384, 64]⟩
abbrev S32 : Shape := ⟨1, ![32]⟩
abbrev S1024x192 : Shape := ⟨2, ![1024, 192]⟩
abbrev S1024 : Shape := ⟨1, ![1024]⟩
abbrev S1024x1024 : Shape := ⟨2, ![1024, 1024]⟩
abbrev S32x1024 : Shape := ⟨2, ![32, 1024]⟩
abbrev S192x1024 : Shape := ⟨2, ![192, 1024]⟩
abbrev S1x32 : Shape := ⟨2, ![1, 32]⟩
abbrev S16384x32 : Shape := ⟨2, ![16384, 32]⟩
abbrev S1024x128 : Shape := ⟨2, ![1024, 128]⟩
abbrev S1024x64 : Shape := ⟨2, ![1024, 64]⟩
abbrev S1024x32 : Shape := ⟨2, ![1024, 32]⟩
abbrev S_ : Shape := ⟨0, ![]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S16384x64, .f32⟩
  | .hbm, ⟨2, _⟩ => ⟨S32, .f32⟩
  | .hbm, ⟨3, _⟩ => ⟨S1024x192, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x1024, .f32⟩
  | .hbm, ⟨10, _⟩ => ⟨S32, .f32⟩
  | .hbm, ⟨11, _⟩ => ⟨S192x1024, .f32⟩
  | .hbm, ⟨12, _⟩ => ⟨S1x32, .f32⟩
  | .hbm, ⟨13, _⟩ => ⟨S16384x32, .f32⟩
  | .hbm, ⟨14, _⟩ => ⟨S16384x32, .f32⟩
  | .local _ .vmem, ⟨0, _⟩ => ⟨S1024x128, .f32⟩
  | .local _ .vmem, ⟨1, _⟩ => ⟨S1024x128, .f32⟩
  | .local _ .vmem, ⟨2, _⟩ => ⟨S1024x64, .f32⟩
  | .local _ .vmem, ⟨3, _⟩ => ⟨S1024x64, .f32⟩
  | .local _ .vmem, ⟨4, _⟩ => ⟨S192x1024, .f32⟩
  | .local _ .vmem, ⟨5, _⟩ => ⟨S1x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x1024, .f32⟩
  | .local _ .vmem, ⟨11, _⟩ => ⟨S1024x1024, .f32⟩
  | .local _ .vmem, ⟨12, _⟩ => ⟨S32x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x128 : Shape := ⟨2, ![16384, 128]⟩
abbrev S16384x64 : Shape := ⟨2, ![16384, 64]⟩
abbrev S32 : Shape := ⟨1, ![32]⟩
abbrev S1024x192 : Shape := ⟨2, ![1024, 192]⟩
abbrev S1024 : Shape := ⟨1, ![1024]⟩
abbrev S1024x1024 : Shape := ⟨2, ![1024, 1024]⟩
abbrev S32x1024 : Shape := ⟨2, ![32, 1024]⟩
abbrev S16384x192 : Shape := ⟨2, ![16384, 192]⟩
abbrev S4x16384x192 : Shape := ⟨3, ![4, 16384, 192]⟩
abbrev S4x16384x1024 : Shape := ⟨3, ![4, 16384, 1024]⟩
abbrev S1x1x1024 : Shape := ⟨3, ![1, 1, 1024]⟩
abbrev S1x16384x1024 : Shape := ⟨3, ![1, 16384, 1024]⟩
abbrev S16384x1024 : Shape := ⟨2, ![16384, 1024]⟩
abbrev S_ : Shape := ⟨0, ![]⟩
abbrev S1024x32 : Shape := ⟨2, ![1024, 32]⟩
abbrev S16384x32 : Shape := ⟨2, ![16384, 32]⟩
abbrev S1x32 : Shape := ⟨2, ![1, 32]⟩

abbrev nBuf : Space → Nat
  | .hbm => 293
  | .vmem => 0
  | .smem => 0
  | _ => 0

abbrev hbmTy0_0 (i : Nat) : BufTy := match i % 128 with
  | 0 => ⟨S16384x128, .f32⟩
  | 1 => ⟨S16384x64, .f32⟩
  | 2 => ⟨S32, .f32⟩
  | 3 => ⟨S1024x192, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S32x1024, .f32⟩
  | 10 => ⟨S32, .f32⟩
  | 11 => ⟨S16384x192, .f32⟩
  | 12 => ⟨S4x16384x192, .f32⟩
  | 13 => ⟨S4x16384x1024, .f32⟩
  | 14 => ⟨S1x1x1024, .f32⟩
  | 15 => ⟨S4x16384x1024, .f32⟩
  | 16 => ⟨S4x16384x1024, .f32⟩
  | 17 => ⟨S1x16384x1024, .f32⟩
  | 18 => ⟨S16384x1024, .f32⟩
  | 19 => ⟨S_, .f32⟩
  | 20 => ⟨S16384x1024, .f32⟩
  | 21 => ⟨S1x16384x1024, .f32⟩
  | 22 => ⟨S16384x1024, .f32⟩
  | 23 => ⟨S1x16384x1024, .f32⟩
  | 24 => ⟨S16384x1024, .f32⟩
  | 25 => ⟨S1x16384x1024, .f32⟩
  | 26 => ⟨S16384x1024, .f32⟩
  | 27 => ⟨S1x16384x1024, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S_, .f32⟩
  | 38 => ⟨S16384x1024, .f32⟩
  | 39 => ⟨S16384x1024, .i1⟩
  | 40 => ⟨S16384x1024, .f32⟩
  | 41 => ⟨S_, .f32⟩
  | 42 => ⟨S16384x1024, .f32⟩
  | 43 => ⟨S16384x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S_, .f32⟩
  | 54 => ⟨S16384x1024, .f32⟩
  | 55 => ⟨S16384x1024, .i1⟩
  | 56 => ⟨S16384x1024, .f32⟩
  | 57 => ⟨S_, .f32⟩
  | 58 => ⟨S16384x1024, .f32⟩
  | 59 => ⟨S16384x1024, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384x1024, .f32⟩
  | 71 => ⟨S16384x1024, .i1⟩
  | 72 => ⟨S16384x1024, .f32⟩
  | 73 => ⟨S_, .f32⟩
  | 74 => ⟨S16384x1024, .f32⟩
  | 75 => ⟨S16384x1024, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .i1⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S1x16384x1024, .f32⟩
  | 94 => ⟨S1x16384x1024, .f32⟩
  | 95 => ⟨S1x16384x1024, .f32⟩
  | 96 => ⟨S1x16384x1024, .f32⟩
  | 97 => ⟨S4x16384x1024, .f32⟩
  | 98 => ⟨S4x16384x1024, .f32⟩
  | 99 => ⟨S1x1x1024, .f32⟩
  | 100 => ⟨S4x16384x1024, .f32⟩
  | 101 => ⟨S4x16384x1024, .f32⟩
  | 102 => ⟨S1x16384x1024, .f32⟩
  | 103 => ⟨S16384x1024, .f32⟩
  | 104 => ⟨S_, .f32⟩
  | 105 => ⟨S16384x1024, .f32⟩
  | 106 => ⟨S1x16384x1024, .f32⟩
  | 107 => ⟨S16384x1024, .f32⟩
  | 108 => ⟨S1x16384x1024, .f32⟩
  | 109 => ⟨S16384x1024, .f32⟩
  | 110 => ⟨S1x16384x1024, .f32⟩
  | 111 => ⟨S16384x1024, .f32⟩
  | 112 => ⟨S1x16384x1024, .f32⟩
  | 113 => ⟨S16384x1024, .f32⟩
  | 114 => ⟨S16384x1024, .f32⟩
  | 115 => ⟨S_, .f32⟩
  | 116 => ⟨S16384x1024, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S_, .f32⟩
  | 123 => ⟨S16384x1024, .f32⟩
  | 124 => ⟨S16384x1024, .i1⟩
  | 125 => ⟨S16384x1024, .f32⟩
  | 126 => ⟨S_, .f32⟩
  | 127 => ⟨S16384x1024, .f32⟩
  | _ => ⟨S16384x128, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .i1⟩
  | 13 => ⟨S16384x1024, .f32⟩
  | 14 => ⟨S_, .f32⟩
  | 15 => ⟨S16384x1024, .f32⟩
  | 16 => ⟨S16384x1024, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .i1⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S_, .f32⟩
  | 43 => ⟨S16384x1024, .f32⟩
  | 44 => ⟨S16384x1024, .i1⟩
  | 45 => ⟨S16384x1024, .f32⟩
  | 46 => ⟨S_, .f32⟩
  | 47 => ⟨S16384x1024, .f32⟩
  | 48 => ⟨S16384x1024, .f32⟩
  | 49 => ⟨S16384x1024, .f32⟩
  | 50 => ⟨S1x16384x1024, .f32⟩
  | 51 => ⟨S1x16384x1024, .f32⟩
  | 52 => ⟨S1x16384x1024, .f32⟩
  | 53 => ⟨S1x16384x1024, .f32⟩
  | 54 => ⟨S4x16384x1024, .f32⟩
  | 55 => ⟨S4x16384x1024, .f32⟩
  | 56 => ⟨S1x1x1024, .f32⟩
  | 57 => ⟨S4x16384x1024, .f32⟩
  | 58 => ⟨S4x16384x1024, .f32⟩
  | 59 => ⟨S1x16384x1024, .f32⟩
  | 60 => ⟨S16384x1024, .f32⟩
  | 61 => ⟨S_, .f32⟩
  | 62 => ⟨S16384x1024, .f32⟩
  | 63 => ⟨S1x16384x1024, .f32⟩
  | 64 => ⟨S16384x1024, .f32⟩
  | 65 => ⟨S1x16384x1024, .f32⟩
  | 66 => ⟨S16384x1024, .f32⟩
  | 67 => ⟨S1x16384x1024, .f32⟩
  | 68 => ⟨S16384x1024, .f32⟩
  | 69 => ⟨S1x16384x1024, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S_, .f32⟩
  | 80 => ⟨S16384x1024, .f32⟩
  | 81 => ⟨S16384x1024, .i1⟩
  | 82 => ⟨S16384x1024, .f32⟩
  | 83 => ⟨S_, .f32⟩
  | 84 => ⟨S16384x1024, .f32⟩
  | 85 => ⟨S16384x1024, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S_, .f32⟩
  | 96 => ⟨S16384x1024, .f32⟩
  | 97 => ⟨S16384x1024, .i1⟩
  | 98 => ⟨S16384x1024, .f32⟩
  | 99 => ⟨S_, .f32⟩
  | 100 => ⟨S16384x1024, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S_, .f32⟩
  | 112 => ⟨S16384x1024, .f32⟩
  | 113 => ⟨S16384x1024, .i1⟩
  | 114 => ⟨S16384x1024, .f32⟩
  | 115 => ⟨S_, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S_, .f32⟩
  | _ => ⟨S16384x128, .f32⟩

abbrev hbmTy0_2 (i : Nat) : BufTy := match i % 128 with
  | 0 => ⟨S16384x1024, .f32⟩
  | 1 => ⟨S16384x1024, .i1⟩
  | 2 => ⟨S16384x1024, .f32⟩
  | 3 => ⟨S_, .f32⟩
  | 4 => ⟨S16384x1024, .f32⟩
  | 5 => ⟨S16384x1024, .f32⟩
  | 6 => ⟨S16384x1024, .f32⟩
  | 7 => ⟨S1x16384x1024, .f32⟩
  | 8 => ⟨S1x16384x1024, .f32⟩
  | 9 => ⟨S1x16384x1024, .f32⟩
  | 10 => ⟨S1x16384x1024, .f32⟩
  | 11 => ⟨S4x16384x1024, .f32⟩
  | 12 => ⟨S_, .f32⟩
  | 13 => ⟨S16384x1024, .f32⟩
  | 14 => ⟨S_, .f32⟩
  | 15 => ⟨S16384x1024, .f32⟩
  | 16 => ⟨S16384x1024, .f32⟩
  | 17 => ⟨S1024x32, .f32⟩
  | 18 => ⟨S16384x32, .f32⟩
  | 19 => ⟨S1x32, .f32⟩
  | 20 => ⟨S16384x32, .f32⟩
  | 21 => ⟨S16384x32, .f32⟩
  | 22 => ⟨S16384x32, .f32⟩
  | 23 => ⟨S_, .f32⟩
  | 24 => ⟨S16384x32, .f32⟩
  | 25 => ⟨S16384x32, .f32⟩
  | 26 => ⟨S_, .f32⟩
  | 27 => ⟨S_, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S1x32, .f32⟩
  | 35 => ⟨S16384x32, .f32⟩
  | 36 => ⟨S16384x32, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_cst_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_24 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_26 : Ref sig .tc := ⟨.hbm, 151, rfl⟩
abbrev main_v113 : Ref sig .tc := ⟨.hbm, 152, rfl⟩
abbrev main_v114 : Ref sig .tc := ⟨.hbm, 153, rfl⟩
abbrev main_cst_27 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_28 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_30 : Ref sig .tc := ⟨.hbm, 167, rfl⟩
abbrev main_v125 : Ref sig .tc := ⟨.hbm, 168, rfl⟩
abbrev main_v126 : Ref sig .tc := ⟨.hbm, 169, rfl⟩
abbrev main_cst_31 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_32 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_33 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_34 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_35 : Ref sig .tc := ⟨.hbm, 204, rfl⟩
abbrev main_v157 : Ref sig .tc := ⟨.hbm, 205, rfl⟩
abbrev main_v158 : Ref sig .tc := ⟨.hbm, 206, rfl⟩
abbrev main_cst_36 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_37 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_cst_38 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_39 : Ref sig .tc := ⟨.hbm, 220, rfl⟩
abbrev main_v169 : Ref sig .tc := ⟨.hbm, 221, rfl⟩
abbrev main_v170 : Ref sig .tc := ⟨.hbm, 222, rfl⟩
abbrev main_cst_40 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_41 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_42 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_43 : Ref sig .tc := ⟨.hbm, 236, rfl⟩
abbrev main_v181 : Ref sig .tc := ⟨.hbm, 237, rfl⟩
abbrev main_v182 : Ref sig .tc := ⟨.hbm, 238, rfl⟩
abbrev main_cst_44 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_45 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_46 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_47 : Ref sig .tc := ⟨.hbm, 252, rfl⟩
abbrev main_v193 : Ref sig .tc := ⟨.hbm, 253, rfl⟩
abbrev main_v194 : Ref sig .tc := ⟨.hbm, 254, rfl⟩
abbrev main_cst_48 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_cst_49 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_50 : Ref sig .tc := ⟨.hbm, 268, rfl⟩
abbrev main_v206 : Ref sig .tc := ⟨.hbm, 269, rfl⟩
abbrev main_cst_51 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_52 : Ref sig .tc := ⟨.hbm, 279, rfl⟩
abbrev main_v215 : Ref sig .tc := ⟨.hbm, 280, rfl⟩
abbrev main_v216 : Ref sig .tc := ⟨.hbm, 281, rfl⟩
abbrev main_cst_53 : Ref sig .tc := ⟨.hbm, 282, rfl⟩
abbrev main_cst_54 : Ref sig .tc := ⟨.hbm, 283, rfl⟩
abbrev main_call0_v0 : Ref sig .tc := ⟨.hbm, 284, rfl⟩
abbrev main_call0_v1 : Ref sig .tc := ⟨.hbm, 285, rfl⟩
abbrev main_call0_v2 : Ref sig .tc := ⟨.hbm, 286, rfl⟩
abbrev main_call0_v3 : Ref sig .tc := ⟨.hbm, 287, rfl⟩
abbrev main_call0_v4 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.MixedBatch
public import Idealize.ShloMosaic.Lib.Tactic
public import Idealize.ShloMosaic.Lib.Transfers
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-! ## The operands the body is handed -/

/-- The three weight buffers in vector memory that the body fills by its own copies. -/
abbrev scM0 : Memref sig .tc .vmem S1024x1024 .f32 := Memref.whole cc0_scratch0
abbrev scM1 : Memref sig .tc .vmem S1024x1024 .f32 := Memref.whole cc0_scratch1
abbrev scM2 : Memref sig .tc .vmem S32x1024 .f32 := Memref.whole cc0_scratch2
/-- The three weight matrices left in HBM. -/
abbrev hbM0 : Memref sig .tc .hbm S1024x1024 .f32 := Memref.whole main_arg5
abbrev hbM1 : Memref sig .tc .hbm S1024x1024 .f32 := Memref.whole main_arg7
abbrev hbM2 : Memref sig .tc .hbm S32x1024 .f32 := Memref.whole main_arg9
/-- The contents of a memref's buffer on core `c`, and that buffer held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The three copies on the one semaphore -/

/-- What one copy hands back when it has been waited for: its destination whole, holding what its source held, and its
    source as it was. -/
abbrev dlv (c : Dev nD) {S : Shape} (rs : Memref sig .tc .hbm S .f32) (rd : Memref sig .tc .vmem S .f32)
    (fs : HbBuf (F := F) c rs) (fd : HbBuf (F := F) c rd) : sProp 𝕄 :=
  iprop((rd.view.loc (c : Thread nD τ) ↦[rd.view.set]{fullShare} rd.view.writes (Elt F) fd
      [⟨Rect.whole S, ReadAs.same.apply (rs.view.read (Elt F) fs)⟩])
    ∗ (rs.view.loc (c : Thread nD τ) ↦[rs.view.set]{fullShare} fs))

/-- The amounts the three copies add to the semaphore, in issue order. -/
abbrev amts : Fin 3 → ℕ := ![131072, 131072, 4096]
def deliv (c : Dev nD) (fh0 : HbBuf (F := F) c hbM0) (fh1 : HbBuf (F := F) c hbM1) (fh2 : HbBuf (F := F) c hbM2)
    (fs0 : HbBuf (F := F) c scM0) (fs1 : HbBuf (F := F) c scM1) (fs2 : HbBuf (F := F) c scM2) : Fin 3 → sProp 𝕄
  | 0 => dlv c hbM0 scM0 fh0 fs0
  | 1 => dlv c hbM1 scM1 fh1 fs1
  | 2 => dlv c hbM2 scM2 fh2 fs2
instance deliv_storable (c : Dev nD) (fh0 : HbBuf (F := F) c hbM0) (fh1 : HbBuf (F := F) c hbM1) (fh2 : HbBuf (F := F) c hbM2)
    (fs0 : HbBuf (F := F) c scM0) (fs1 : HbBuf (F := F) c scM1) (fs2 : HbBuf (F := F) c scM2) (t : Fin 3) :
    Storable (upEmb : UEmb _ 𝕄) (deliv c fh0 fh1 fh2 fs0 fs1 fs2 t) := by
  fin_cases t <;> simp only [deliv] <;> infer_instance

/-! ## What the body leaves in its two results -/

/-- The block has an input current that reaches the threshold: the body takes its long branch. -/
abbrev Spiked (x0 : Vec F S1024x128 .f32) (x1 : Vec F S1024x64 .f32) (x2 : Vec F S192x1024 .f32) : Prop :=
  Scalar.cmpf .oge (k0_pay2 x0 x1 x2) (FloatOps.ofBits .f32 0x3F800000#32) = 1#1

section Chain

variable (p w2 w3 : FVec F S1024x1024 .f32)

/-- The zero the printed parts hand each other as a scalar. -/
abbrev zf : F .f32 := Scalar.ofBits .f32 0x00000000#32
/-- The first step: the three layers' potentials after it, and the third layer's input current. -/
def va1 : FVec F S1024x1024 .f32 := k0_pay11 p
def vb1 : FVec F S1024x1024 .f32 := k0_pay14 p w2
def xc1 : FVec F S1024x1024 .f32 := k0_pay15 p w2 w3
/-- The third layer's first spikes and its potential after them. -/
def sc1 : FVec F S1024x1024 .f32 := k0_pay18 (k0_pay8 (F := F)) (xc1 p w2 w3)
def vc1 : FVec F S1024x1024 .f32 := k0_pay19 (k0_pay8 (F := F)) (xc1 p w2 w3)
/-- The second step: the first layer's potential; the second layer's potential before it fires, which neurons fire, and
    its spikes. -/
def va2 : FVec F S1024x1024 .f32 := k0_pay22 p (va1 p)
def ub2 : FVec F S1024x1024 .f32 := k0_pay23 p (va1 p) (vb1 p w2) w2
def fb2 : IVec S1024x1024 1 := k0_pay24 p (va1 p) (vb1 p w2) w2
def sb2 : FVec F S1024x1024 .f32 := k0_pay25 p (va1 p) (vb1 p w2) w2
/-- The third layer's potential after the second step, and its two spikes added. -/
def vc2 : FVec F S1024x1024 .f32 := k0_pay28 (vc1 p w2 w3) (sb2 p w2) w3
def sc2 : FVec F S1024x1024 .f32 := k0_pay29 (sc1 p w2 w3) (vc1 p w2 w3) (sb2 p w2) w3
/-- The third step: the first layer's potential; the second layer's before it fires, and that less the threshold. -/
def va3 : FVec F S1024x1024 .f32 := k0_pay32 p (va2 p)
def ub3 : FVec F S1024x1024 .f32 := k0_pay33 p (va2 p) (ub2 p w2) (fb2 p w2) zf w2
def db3 : FVec F S1024x1024 .f32 := k0_pay34 p (va2 p) (ub2 p w2) (fb2 p w2) zf w2
/-- The second and third layers' potentials after the third step, the third layer's three spikes added, and what the
    fourth step adds to the second layer's potential. -/
def vb3 : FVec F S1024x1024 .f32 := k0_pay36 (ub3 p w2) (db3 p w2) zf
def vc3 : FVec F S1024x1024 .f32 := k0_pay39 (vc2 p w2 w3) (db3 p w2) zf w3
def sc3 : FVec F S1024x1024 .f32 := k0_pay40 (vc2 p w2 w3) (sc2 p w2 w3) (db3 p w2) zf w3
def db4 : FVec F S1024x1024 .f32 := k0_pay41 p (va3 p) (ub3 p w2) (db3 p w2) zf w2

end Chain

/-- The long branch's two results, from the block's input currents `p`, the three weight matrices and the noise row. -/
def amBusy (p w2 w3 : FVec F S1024x1024 .f32) (wm : FVec F S32x1024 .f32) : FVec F S1024x32 .f32 :=
  k0_pay6 (vb3 p w2) (vc3 p w2 w3) (sc3 p w2 w3) (db4 p w2) w3 wm
def actBusy (x3 : FVec F S1x32 .f32) (p w2 w3 : FVec F S1024x1024 .f32) (wm : FVec F S32x1024 .f32) : FVec F S1024x32 .f32 :=
  k0_pay7 x3 (vb3 p w2) (vc3 p w2 w3) (sc3 p w2 w3) (db4 p w2) w3 wm

open Classical in
/-- The block of the first result: the long branch's when the block spikes, zero when not. -/
def outAm (x0 : Vec F S1024x128 .f32) (x1 : Vec F S1024x64 .f32) (x2 : Vec F S192x1024 .f32)
    (w2 w3 : FVec F S1024x1024 .f32) (wm : FVec F S32x1024 .f32) : FVec F S1024x32 .f32 :=
  if Spiked x0 x1 x2 then amBusy (k0_pay1 x0 x1 x2) w2 w3 wm else k0_pay4
open Classical in
/-- The block of the second result: the long branch's when the block spikes, the clipped noise on every row when not. -/
def outAct (x0 : Vec F S1024x128 .f32) (x1 : Vec F S1024x64 .f32) (x2 : Vec F S192x1024 .f32) (x3 : Vec F S1x32 .f32)
    (w2 w3 : FVec F S1024x1024 .f32) (wm : FVec F S32x1024 .f32) : FVec F S1024x32 .f32 :=
  if Spiked x0 x1 x2 then actBusy x3 (k0_pay1 x0 x1 x2) w2 w3 wm else k0_pay5 x3

/-! ## The body, run once -/

section Conditions

variable {x0 : Vec F S1024x128 .f32} {x1 : Vec F S1024x64 .f32} {x2 : Vec F S192x1024 .f32}

/-- The two branch conditions as the body computes them: the long branch is taken when the block spikes, -/
theorem cond_of (hs : Spiked x0 x1 x2) :
    Scalar.cmpi .ne (Scalar.extui (Scalar.cmpf .oge (k0_pay2 x0 x1 x2) (FloatOps.ofBits .f32 0x3F800000#32)) : BitVec 32) 0#32 = 1#1 := by
  rw [hs]; decide
/-- and then the short one is not; -/
theorem cond_not_of (hs : Spiked x0 x1 x2) :
    ¬ Scalar.cmpi .ne (Scalar.extui (Scalar.xori (Scalar.cmpf .oge (k0_pay2 x0 x1 x2) (FloatOps.ofBits .f32 0x3F800000#32)) 1#1) : BitVec 32) 0#32 = 1#1 := by
  rw [hs]; decide
/-- the short branch is taken when it does not, -/
theorem cond_of_not (hs : ¬ Spiked x0 x1 x2) :
    Scalar.cmpi .ne (Scalar.extui (Scalar.xori (Scalar.cmpf .oge (k0_pay2 x0 x1 x2) (FloatOps.ofBits .f32 0x3F800000#32)) 1#1) : BitVec 32) 0#32 = 1#1 := by
  rw [(BitVec.eq_zero_or_eq_one _).resolve_right hs]; decide
/-- and then the long one is not. -/
theorem cond_not_of_not (hs : ¬ Spiked x0 x1 x2) :
    ¬ Scalar.cmpi .ne (Scalar.extui (Scalar.cmpf .oge (k0_pay2 x0 x1 x2) (FloatOps.ofBits .f32 0x3F800000#32)) : BitVec 32) 0#32 = 1#1 := by
  rw [(BitVec.eq_zero_or_eq_one _).resolve_right hs]; decide

end Conditions

/-- A load of the whole of a buffer that holds one landed copy reads what was copied. -/
theorem landed {S : Shape} {sp : Space} (rd : Memref sig .tc sp S .f32) (w : S.Idx → Elt F .f32)
    {off : Fin S.rank → ℕ} (inb : ∀ a, off a + S.size a ≤ S.size a) :
    rd.view.readCov [(⟨Rect.whole S, w⟩ : View.Piece (Elt F) S .f32)] (Rect.unit off S.size inb).toLoadRect = w :=
  (View.readAt_full rd.view _ inb).trans (View.read_writes_whole _ _ _)

set_option maxHeartbeats 4000000 in
/-- One run of the body, from the blocks of its four inputs, its two results' stagings and its three scratches whatever
    they hold, its semaphore at zero and the three weight matrices: the two results hold `outAm` and `outAct` of those,
    and all the rest is as it was, the scratches excepted. -/
theorem kernelRun (c : Dev nD) (i : grid0.Coords)
    (arg1 : Memref sig .tc .vmem S1024x128 .f32) (harg1 : arg1.IsWhole)
    (arg2 : Memref sig .tc .vmem S1024x64 .f32) (harg2 : arg2.IsWhole)
    (arg3 : Memref sig .tc .vmem S192x1024 .f32) (harg3 : arg3.IsWhole)
    (arg7 : Memref sig .tc .vmem S1x32 .f32) (harg7 : arg7.IsWhole)
    (arg8 : Memref sig .tc .vmem S1024x32 .f32) (harg8 : arg8.IsWhole)
    (arg9 : Memref sig .tc .vmem S1024x32 .f32) (harg9 : arg9.IsWhole)
    (x0 : Vec F S1024x128 .f32) (x1 : Vec F S1024x64 .f32) (x2 : Vec F S192x1024 .f32) (x3 : Vec F S1x32 .f32)
    (fh0 : HbBuf (F := F) c hbM0) (fh1 : HbBuf (F := F) c hbM1) (fh2 : HbBuf (F := F) c hbM2)
    (W : Waits sig Unit) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg7 fullShare x3
        ∗ (∃ d, owns (c : Thread nD τ) arg8 fullShare d) ∗ (∃ d, owns (c : Thread nD τ) arg9 fullShare d)
        ∗ (∃ d, owns (c : Thread nD τ) scM0 fullShare d) ∗ (∃ d, owns (c : Thread nD τ) scM1 fullShare d) ∗ (∃ d, owns (c : Thread nD τ) scM2 fullShare d)
        ∗ semVal ((c : Thread nD τ), SemLoc.dma 10) 0
        ∗ hbPt c hbM0 fh0 ∗ hbPt c hbM1 fh1 ∗ hbPt c hbM2 fh2
        ∗ owes (c : Thread nD τ) 0 W
        ∗ (iprop(owns (c : Thread nD τ) arg1 fullShare x0 ∗ owns (c : Thread nD τ) arg2 fullShare x1
            ∗ owns (c : Thread nD τ) arg3 fullShare x2 ∗ owns (c : Thread nD τ) arg7 fullShare x3
            ∗ owns (c : Thread nD τ) arg8 fullShare (outAm x0 x1 x2 fh0 fh1 fh2)
            ∗ owns (c : Thread nD τ) arg9 fullShare (outAct x0 x1 x2 x3 fh0 fh1 fh2)
            ∗ (∃ d, owns (c : Thread nD τ) scM0 fullShare d) ∗ (∃ d, owns (c : Thread nD τ) scM1 fullShare d) ∗ (∃ d, owns (c : Thread nD τ) scM2 fullShare d)
            ∗ semVal ((c : Thread nD τ), SemLoc.dma 10) 0
            ∗ hbPt c hbM0 fh0 ∗ hbPt c hbM1 fh1 ∗ hbPt c hbM2 fh2
            ∗ (∃ W', owes (c : Thread nD τ) 0 W')) -∗ K ⟨⟩))
      ⊢ wp frame (wpE (defs₀ (F := F)) Variants.none c none) Set.univ
          (cc0_fused_lif_mlp i arg1 harg1 arg2 harg2 arg3 harg3 hbM0 (Memref.isWhole_whole _) hbM1 (Memref.isWhole_whole _)
            hbM2 (Memref.isWhole_whole _) arg7 harg7 arg8 harg8 arg9 harg9 scM0 (Memref.isWhole_whole _)
            scM1 (Memref.isWhole_whole _) scM2 (Memref.isWhole_whole _) cc0_scratch3) K := by
  simp only [cc0_fused_lif_mlp_eq_skeleton]; unfold cc0_fused_lif_mlp_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f7, %hf7, H7⟩, ⟨%d8, %f8, -, H8⟩, ⟨%d9, %f9, -, H9⟩,
    ⟨%ds0, %fs0, -, HS0⟩, ⟨%ds1, %fs1, -, HS1⟩, ⟨%ds2, %fs2, -, HS2⟩, Hq, Hh0, Hh1, Hh2, HW, Hk⟩
  have hr1 : View.readAt (Elt F) arg1.view (Rect.unit ![0, 0] ![1024, 128] inb_S1024x128_S1024x128_0_0).toLoadRect f1 = x0 :=
    (View.readAt_full arg1.view f1 _).trans hf1
  have hr2 : View.readAt (Elt F) arg2.view (Rect.unit ![0, 0] ![1024, 64] inb_S1024x64_S1024x64_0_0).toLoadRect f2 = x1 :=
    (View.readAt_full arg2.view f2 _).trans hf2
  have hr3 : View.readAt (Elt F) arg3.view (Rect.unit ![0, 0] ![192, 1024] inb_S192x1024_S192x1024_0_0).toLoadRect f3 = x2 :=
    (View.readAt_full arg3.view f3 _).trans hf3
  have hr7 : View.readAt (Elt F) arg7.view (Rect.unit ![0, 0] ![1, 32] inb_S1x32_S1x32_0_0).toLoadRect f7 = x3 :=
    (View.readAt_full arg7.view f7 _).trans hf7
  by_cases hs : Spiked x0 x1 x2
  · have e1 := cond_not_of hs
    have e2 := cond_of hs
    rw [outAm, if_pos hs, outAct, if_pos hs]
    subst hr1 hr2 hr3 hr7
    imod (Transfers.mixedBatch_alloc' (Lvl := ℕ) (countersEmb (U := Pipeline.UD sig nD τ)) (c : Thread nD τ) () amts
      (deliv c fh0 fh1 fh2 fs0 fs1 fs2) (sm := SemLoc.dma 10) (E := Set.univ)) $$ Hq with HB
    unfold deliv
    sl_exec
    sl_step
    have hv0 : kernelRun.sl.v38 c fh0 = fh0 := landed scM0 _ _
    have hv1 : kernelRun.sl.v53 c fh1 = fh1 := landed scM1 _ _
    have hv1' : kernelRun.sl.v180 c fh1 = fh1 := landed scM1 _ _
    have hv2 : kernelRun.sl.v196 c fh2 = fh2 := landed scM2 _ _
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H7]; · iexists _; isplitr; swap; · iexact H7
                    ipureintro; exact hf7
    isplitl [H8]; · iexists _; isplitr; swap; · iexact H8
                    ipureintro; refine (View.read_writes_full _ _ _ _ _).trans ?_
                    simp only [hv0, hv1, hv1', hv2]; rfl
    isplitl [H9]; · iexists _; isplitr; swap; · iexact H9
                    ipureintro; refine (View.read_writes_full _ _ _ _ _).trans ?_
                    simp only [hv0, hv1, hv1', hv2]; rfl
    isplitl [HB_dst0]; · iexists _, _; isplitr; swap; · iexact HB_dst0
                         ipureintro; rfl
    isplitl [HB_dst1]; · iexists _, _; isplitr; swap; · iexact HB_dst1
                         ipureintro; rfl
    isplitl [HB_dst2]; · iexists _, _; isplitr; swap; · iexact HB_dst2
                         ipureintro; rfl
    isplitl [HB]; · iexact HB
    isplitl [Hh0]; · iexact Hh0
    isplitl [Hh1]; · iexact Hh1
    isplitl [Hh2]; · iexact Hh2
    iexists _; iexact HW
  · have e1 := cond_of_not hs
    have e2 := cond_not_of_not hs
    rw [outAm, if_neg hs, outAct, if_neg hs]
    subst hr1 hr2 hr3 hr7
    sl_exec
    sl_step
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H7]; · iexists _; isplitr; swap; · iexact H7
                    ipureintro; exact hf7
    isplitl [H8]; · iexists _; isplitr; swap; · iexact H8
                    ipureintro; exact View.read_writes_full _ _ _ _ _
    isplitl [H9]; · iexists _; isplitr; swap; · iexact H9
                    ipureintro; exact View.read_writes_full _ _ _ _ _
    isplitl [HS0]; · iexists _, _; isplitr; swap; · iexact HS0
                     ipureintro; rfl
    isplitl [HS1]; · iexists _, _; isplitr; swap; · iexact HS1
                     ipureintro; rfl
    isplitl [HS2]; · iexists _, _; isplitr; swap; · iexact HS2
                     ipureintro; rfl
    isplitl [Hq]; · iexact Hq
    isplitl [Hh0]; · iexact Hh0
    isplitl [Hh1]; · iexact Hh1
    isplitl [Hh2]; · iexact Hh2
    iexists _; iexact HW

end Cert.KernelIdeal.Hand

end
-- ==== Proof.KernelIdealRun.lean ====
module

public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body keeps between grid points -/

/-- The body's own semaphore, by its number in the pool. -/
abbrev osem0 : Fin 1 → SemLoc sig := fun _ => SemLoc.dma 10
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl

/-- The three weight matrices the body copies out of HBM itself: no window's arrays. -/
def H0 : Finset (Ref sig .tc) := {main_arg5, main_arg7, main_arg9}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hbM0 (V m c main_arg5) ∗ hbPt c hbM1 (V m c main_arg7) ∗ hbPt c hbM2 (V m c main_arg9)) := by
  rw [BI.bigSep_eq_bigSepL_of_eq [main_arg5, main_arg7, main_arg9] (by decide) (by decide)]; rfl

/-- The invariant between grid points, part by part: the three scratches at anything, the generator's register, the
    semaphore at zero, and the three weight matrices as launched. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d)
            ∗ (∃ d, owns (c : Thread nD τ) scM2 fullShare d))
          ∗ (∃ r, prngReg c r) ∗ semVal ((c : Thread nD τ), SemLoc.dma 10) 0
          ∗ iprop(hbPt c hbM0 (V m c main_arg5) ∗ hbPt c hbM1 (V m c main_arg7) ∗ hbPt c hbM2 (V m c main_arg9))) := by
  rw [Pipeline.ΦD_eq, scopedRest0_eq, ownSems00_eq, hbmPts0_eq]; simp only [scM0, scM1, scM2, owns_whole]; try rfl

/-! ## What the windows hold -/

/-- What the body leaves in the two results' stagings at grid point `t`: `outAm` and `outAct` of the four input blocks
    there and the three weight matrices. -/
def amAt (c : Dev nD) (t : Fin cfg0.N) : FVec F S1024x32 .f32 :=
  outAm (iblk m c 0 t) (iblk m c 1 t) (iblk m c 2 t) (V m c main_arg5) (V m c main_arg7) (V m c main_arg9)
def actAt (c : Dev nD) (t : Fin cfg0.N) : FVec F S1024x32 .f32 :=
  outAct (iblk m c 0 t) (iblk m c 1 t) (iblk m c 2 t) (iblk m c 3 t) (V m c main_arg5) (V m c main_arg7) (V m c main_arg9)

/-- The proof data of the one region: every window's array as the region finds it; each input's staging left at its
    block and the two results' at `amAt` and `actAt`; the invariant; full shares; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => amAt m c t
    | ⟨5, _⟩ => actAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after4 (c : Dev nD) (t : Fin cfg0.N) : (dats m 0 c).after 4 t = amAt m c t := by dsimp only [dats]
theorem after5 (c : Dev nD) (t : Fin cfg0.N) : (dats m 0 c).after 5 t = actAt m c t := by dsimp only [dats]

/-- An input window's staging holds its block at every grid point, fetched there or not. -/
theorem before_input (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dats m 0 c).after w t) = iblk m c w t)
    (t : Fin cfg0.N) (d) : (dats m 0 c).before w t d = (dats m 0 c).fetched w t d :=
  (dats m 0 c).before_in_eq_fetched w hw hlive hclip (fun t => (hafter t).trans (by unfold Dat.blockOf iblk; rw [A_eq])) t d

theorem before0 (c : Dev nD) (t : Fin cfg0.N) (d) : (dats m 0 c).before 0 t d = iblk m c 0 t :=
  (before_input m c 0 rfl (fun _ => rfl) (fun _ _ _ => rfl) (fun _ => rfl) t d).trans
    (by unfold Dat.fetched Dat.blockOf iblk; rw [A_eq]; rfl)
theorem before1 (c : Dev nD) (t : Fin cfg0.N) (d) : (dats m 0 c).before 1 t d = iblk m c 1 t :=
  (before_input m c 1 rfl (fun _ => rfl) (fun _ _ _ => rfl) (fun _ => rfl) t d).trans
    (by unfold Dat.fetched Dat.blockOf iblk; rw [A_eq]; rfl)
theorem before2 (c : Dev nD) (t : Fin cfg0.N) (d) : (dats m 0 c).before 2 t d = iblk m c 2 t :=
  (before_input m c 2 rfl (fun _ => rfl) (fun _ _ _ => rfl) (fun _ => rfl) t d).trans
    (by unfold Dat.fetched Dat.blockOf iblk; rw [A_eq]; rfl)
theorem before3 (c : Dev nD) (t : Fin cfg0.N) (d) : (dats m 0 c).before 3 t d = iblk m c 3 t :=
  (before_input m c 3 rfl (fun _ => rfl) (fun _ _ _ => rfl) (fun _ => rfl) t d).trans
    (by unfold Dat.fetched Dat.blockOf iblk; rw [A_eq]; rfl)

/-! ## The body at a grid point -/

/-- What the body is called with at grid point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

/-- The body at a grid point: the invariant opened, the body run (`kernelRun`), the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq, after4, after5,
    show (dats m 0 c).after 0 t = iblk m c 0 t from rfl, show (dats m 0 c).after 1 t = iblk m c 1 t from rfl,
    show (dats m 0 c).after 2 t = iblk m c 2 t from rfl, show (dats m 0 c).after 3 t = iblk m c 3 t from rfl]
  unfold Dat.owesAt Pipeline.owesWithin
  rw [show (dats m 0 c).owed t.castSucc = 0 from rfl]
  simp only [before0, before1, before2, before3]
  iintro ⟨⟨⟨HS0, HS1, HS2⟩, Hg, Hq, ⟨Hh0, Hh1, Hh2⟩⟩, ⟨%W, %hW, HO⟩, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ (iblk m c 0 t) (iblk m c 1 t) (iblk m c 2 t) (iblk m c 3 t)
    (V m c main_arg5) (V m c main_arg7) (V m c main_arg9) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [Hq]; · iexact Hq
  isplitl [Hh0]; · iexact Hh0
  isplitl [Hh1]; · iexact Hh1
  isplitl [Hh2]; · iexact Hh2
  isplitl [HO]; · iexact HO
  iintro ⟨H0, H1, H2, H3, H4, H5, HS0, HS1, HS2, Hq, Hh0, Hh1, Hh2, ⟨%W', HO⟩⟩
  isplitl [HS0 HS1 HS2 Hg Hq Hh0 Hh1 Hh2]
  · isplitl [HS0 HS1 HS2]
    · isplitl [HS0]; · iexact HS0
      isplitl [HS1]; · iexact HS1
      iexact HS2
    isplitl [Hg]; · iexact Hg
    isplitl [Hq]; · iexact Hq
    isplitl [Hh0]; · iexact Hh0
    isplitl [Hh1]; · iexact Hh1
    iexact Hh2
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · unfold amAt; iexact H4
  unfold actAt; iexact H5

/-- The body the region calls at a grid point is the one `sound_body` is about. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 800000 in
/-- @main up to the region: its two host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the run's implicit arguments are found by unifying its conclusion with this statement, which needs plain definitions
-- unfolded in a metavariable's type
set_option backward.isDefEq.respectTransparency.types false in
/-- From any memory with zero counters every weakly fair execution of @main terminates, with each window's array at what
    the proof data says, every other unscoped buffer as the region found it, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The eleven arguments hold what they held at launch. -/
def ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

variable {m} in
/-- After the run they do: the two windows' arrays are never written back, the others are no window's arrays. -/
theorem argsKept {r : PUnit × MemSt nD τ sig (Elt F)} (h : Pipeline.FramePost cfgs (dats m) 0 (V m) r) (c : Dev nD) :
    ArgsKept m r c :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame: @main leaves its arguments as they were and every counter at zero. -/
theorem frame_main : θ_run defs (onTc (τ := τ) (main (F := F))) ⟨m, fun _ => 0, ρ⟩
    (fun r => (∀ c : Dev nD, ArgsKept m r c) ∧ r.2.sem = fun _ => 0) :=
  (θ_run defs _ _).mono (fun _ h => ⟨argsKept h.1, h.2⟩) (run_main m ρ)

end Cert.KernelIdeal.Hand

end
-- ==== Proof.Frames.lean ====
/- The frames of the idealized kernel and of the reference: both run to their end, leave their arguments as they were
   and every semaphore counter at zero. -/
module

public import proofs.«01_k».proof.Defs
public import proofs.«01_k».proof.Proof.KernelIdealRun
public import proofs.«01_k».proof.Proof.Gen.ReferenceIdeal.Run

@[expose] public section

set_option maxRecDepth 16384

noncomputable section

namespace Cert.Proof

open Idealize.ShloMosaic Idealize.SL.Sem

/-- The idealized kernel's frame: `frame_main` at the extended reals. -/
theorem quiescent_ki : Cert.quiescent_KernelIdeal (hKernelIdeal := Cert.KernelIdeal.Gen.facts) :=
  fun m g _ => Cert.KernelIdeal.Hand.frame_main m g

/-- The reference's frame: its run, and it has no semaphore. -/
theorem quiescent_ri : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩)
    (Cert.ReferenceIdeal.Value.run (F := Ideal) m g)

end Cert.Proof

end
-- ==== Proof.KernelFrame.lean ====
/- The frame of the kernel as printed for the device, carried over from the frame of its idealization: no rewrite was
   applied, so the two programs are the same text and their definitions unfold to the same terms. -/
module

public import proofs.«01_k».proof.Defs
public import proofs.«01_k».proof.Proof.KernelIdealRun
public import proofs.«01_k».proof.Proof.Gen.Kernel

@[expose] public section

set_option maxRecDepth 16384

noncomputable section

namespace Cert.Kernel.Hand

open Idealize.ShloMosaic Idealize.SL.Sem

variable {F : FTy → Type} [FloatOps F]

/-- The two programs' kernel bodies are one table. -/
theorem defs₀_eq : @Cert.Kernel.defs₀ F _ Cert.Kernel.Gen.facts = @Cert.KernelIdeal.defs₀ F _ _ := by
  unfold Cert.Kernel.defs₀ Cert.KernelIdeal.defs₀
  congr 1
  funext l x
  match l, x with
  | 0, (t, s) => rfl

/-- And so are their tables with the pipeline's own entries. -/
theorem defs_eq : @Cert.Kernel.defs F _ Cert.Kernel.Gen.facts = @Cert.KernelIdeal.defs F _ _ :=
  congrArg (Pipeline.defs Cert.KernelIdeal.pcfgs) defs₀_eq

/-- The frame of the kernel at the device's own floats. -/
theorem quiescent : Cert.quiescent_Kernel (hKernel := Cert.Kernel.Gen.facts) := fun m g _ => by
  rw [defs_eq]
  exact Cert.KernelIdeal.Hand.frame_main (F := Bits) m g

end Cert.Kernel.Hand

end
-- ==== Proof.Lif.lean ====
/- The spiking network of this certificate as plain mathematics over the extended reals: one leaky neuron stepped through a
   sequence of input currents, three layers of them, and the readout. Also the facts about it that the two programs' values
   rest on: the two ways of writing a reset agree, and a row whose input currents all stay below the threshold reads out as
   zero. -/
module

public import Idealize.ShloMosaic.PureOps.Ideal.Laws
public import Idealize.ShloMosaic.Lib.IdealHost

@[expose] public section

noncomputable section

namespace Cert.Lif

open Idealize.ShloMosaic
open scoped BigOperators

/-! ## One neuron -/

/-- A neuron at potential `v` charged by the current `x`: half the way from `v` to `x`. -/
def chg (v x : EReal) : EReal := v + Ideal.div (x - v) 2
/-- The spike of a neuron charged to `u`: one when `u` is at least the threshold 1, else zero. -/
def spike (u : EReal) : EReal := if 0 ≤ u - 1 then 1 else 0
/-- The potential left after a neuron charged to `u` may have fired: zero if it fired. -/
def rst (u : EReal) : EReal := if 0 ≤ u - 1 then 0 else u

/-- The charged potential at step `t` of a neuron that starts at zero and is fed the currents `x`. -/
def pot (x : ℕ → EReal) : ℕ → EReal
  | 0 => chg 0 (x 0)
  | t + 1 => chg (rst (pot x t)) (x (t + 1))
/-- Its spike at step `t`. -/
def spk (x : ℕ → EReal) (t : ℕ) : EReal := spike (pot x t)

/-- Resetting by multiplying with one less the spike is resetting by choosing zero. -/
theorem mul_one_sub_spike (u : EReal) : u * (1 - spike u) = rst u := by
  have h11 : (1 : EReal) - 1 = 0 := by
    rw [show (1 : EReal) = ((1 : ℝ) : EReal) by norm_cast, ← EReal.coe_sub]; norm_num
  unfold spike rst
  split
  · rw [h11, mul_zero]
  · rw [sub_zero, mul_one]

/-- The comparison's one-bit result read as a number is the spike. -/
theorem toNat_cmp (u : EReal) : (((Ideal.cmp .oge (u - 1) 0).toNat : ℝ) : EReal) = spike u := by
  unfold spike Ideal.cmp
  by_cases h : 0 ≤ u - 1 <;> simp [h]

/-- A potential below the threshold does not fire. -/
theorem not_fires {u : EReal} (h : u < 1) : ¬ 0 ≤ u - 1 := by
  induction u with
  | bot => simp
  | top => simp at h
  | coe r =>
    rw [show (1 : EReal) = ((1 : ℝ) : EReal) by norm_cast] at h ⊢
    rw [← EReal.coe_sub, show (0 : EReal) = ((0 : ℝ) : EReal) by norm_cast, EReal.coe_le_coe_iff]
    rw [EReal.coe_lt_coe_iff] at h
    linarith

theorem spike_of_lt {u : EReal} (h : u < 1) : spike u = 0 := if_neg (not_fires h)
theorem rst_of_lt {u : EReal} (h : u < 1) : rst u = u := if_neg (not_fires h)

/-- Charging a potential below the threshold by a current below it stays below it. -/
theorem chg_lt {v x : EReal} (hv : v < 1) (hx : x < 1) : chg v x < 1 := by
  have h2 : (2 : EReal) = ((2 : ℝ) : EReal) := by norm_cast
  have h1 : (1 : EReal) = ((1 : ℝ) : EReal) := by norm_cast
  have h20 : (2 : EReal) ≠ 0 := by rw [h2]; norm_cast
  unfold chg Ideal.div
  rw [if_neg h20, h2, ← EReal.coe_inv]
  induction v with
  | bot => rw [EReal.bot_add]; exact hv
  | top => simp at hv
  | coe a =>
    induction x with
    | bot =>
      rw [EReal.bot_sub, EReal.bot_mul_coe_of_pos (by norm_num), EReal.add_bot]
      exact hx
    | top => simp at hx
    | coe b =>
      rw [h1, EReal.coe_lt_coe_iff] at hv hx
      rw [← EReal.coe_sub, ← EReal.coe_mul, ← EReal.coe_add, h1, EReal.coe_lt_coe_iff]
      linarith

theorem chg_zero_zero : chg 0 0 = 0 := by
  have h20 : (2 : EReal) ≠ 0 := by rw [show (2 : EReal) = ((2 : ℝ) : EReal) by norm_cast]; norm_cast
  unfold chg Ideal.div
  rw [if_neg h20, sub_zero, zero_mul, add_zero]

/-- A neuron whose currents all stay below the threshold never spikes. -/
theorem spk_of_lt {x : ℕ → EReal} (h : ∀ t, x t < 1) (t : ℕ) : spk x t = 0 := by
  have h01 : (0 : EReal) < 1 := zero_lt_one
  have hp : ∀ t, pot x t < 1 := by
    intro t
    induction t with
    | zero => exact chg_lt h01 (h 0)
    | succ t ih => show chg (rst (pot x t)) (x (t + 1)) < 1; rw [rst_of_lt ih]; exact chg_lt ih (h _)
  exact spike_of_lt (hp t)

/-! ## The network -/

/-- The product of a vector with a row of weights. -/
def dot {K : ℕ} (s w : Fin K → EReal) : EReal := ∑ k, s k * w k

/-- The input current of a hidden neuron with weights `w`: the observation and then the context, weighted. -/
def pre (obs : Fin 128 → EReal) (ctx : Fin 64 → EReal) (w : Fin 192 → EReal) : EReal :=
  dot (fun k => if h : k.val < 128 then obs ⟨k.val, h⟩ else ctx ⟨k.val - 128, by omega⟩) w

/-- The first layer's spikes: neuron `k` is fed the same current `p k` at every step. -/
def layer1 (p : Fin 1024 → EReal) (t : ℕ) (k : Fin 1024) : EReal := spk (fun _ => p k) t
/-- A later layer's spikes, fed the spikes `s` of the layer before it through the weights `w`. -/
def layerNext (s : ℕ → Fin 1024 → EReal) (w : Fin 1024 → Fin 1024 → EReal) (t : ℕ) (j : Fin 1024) : EReal :=
  spk (fun t => dot (s t) (w j)) t

/-- The third layer's spikes at step `t`. -/
def layer3 (p : Fin 1024 → EReal) (w2 w3 : Fin 1024 → Fin 1024 → EReal) : ℕ → Fin 1024 → EReal :=
  layerNext (layerNext (layer1 p) w2) w3

/-- The readout's input: the third layer's spikes averaged over the four steps. -/
def feat (p : Fin 1024 → EReal) (w2 w3 : Fin 1024 → Fin 1024 → EReal) (j : Fin 1024) : EReal :=
  Ideal.div (∑ t : Fin 4, layer3 p w2 w3 t.val j) 4

/-- The network's output through the readout weights `wm`. -/
def readout (p : Fin 1024 → EReal) (w2 w3 : Fin 1024 → Fin 1024 → EReal) (wm : Fin 1024 → EReal) : EReal :=
  Ideal.tanh (dot (feat p w2 w3) wm)

/-- A noise entry clipped to the printed bounds around zero, a tenth either way. -/
def clip (x : EReal) : EReal := min (Ideal.ofBits .f32 0x3DCCCCCD#32) (max (Ideal.ofBits .f32 0xBDCCCCCD#32) x)

theorem dot_zero {K : ℕ} (w : Fin K → EReal) : dot (fun _ => 0) w = 0 := by
  unfold dot
  simp only [zero_mul, Finset.sum_const_zero]

/-- A layer whose predecessor is silent is silent. -/
theorem layerNext_zero {s : ℕ → Fin 1024 → EReal} (h : ∀ t k, s t k = 0) (w : Fin 1024 → Fin 1024 → EReal) (t : ℕ)
    (j : Fin 1024) : layerNext s w t j = 0 := by
  refine spk_of_lt (fun t => ?_) t
  rw [show s t = fun _ => 0 from funext (h t), dot_zero]
  exact zero_lt_one

theorem div_four (x : EReal) : Ideal.div x 4 = x * ((1 / 4 : ℝ) : EReal) := by
  have h4 : (4 : EReal) = ((4 : ℝ) : EReal) := by norm_cast
  have h40 : (4 : EReal) ≠ 0 := by rw [h4]; norm_cast
  unfold Ideal.div
  rw [if_neg h40, h4, ← EReal.coe_inv, one_div]

/-- A row whose input currents all stay below the threshold reads out as zero. -/
theorem readout_quiet {p : Fin 1024 → EReal} (h : ∀ k, p k < 1) (w2 w3 : Fin 1024 → Fin 1024 → EReal)
    (wm : Fin 1024 → EReal) : readout p w2 w3 wm = 0 := by
  have h3 : ∀ t j, layer3 p w2 w3 t j = 0 := fun t j =>
    layerNext_zero (fun t k => layerNext_zero (fun t k => spk_of_lt (fun _ => h k) t) w2 t k) w3 t j
  have hf : feat p w2 w3 = fun _ => 0 := funext fun j => by
    unfold feat
    simp only [h3, Finset.sum_const_zero, div_four, zero_mul]
  unfold readout
  rw [hf, dot_zero]
  show ((Real.tanh 0 : ℝ) : EReal) = 0
  rw [Real.tanh_zero]; rfl

/-! ## The constants the programs print -/

theorem ofBits_two : Ideal.ofBits .f32 0x40000000#32 = 2 := by
  rw [show (2 : EReal) = ((2 : ℝ) : EReal) by norm_cast]
  simp [Ideal.ofBits, Ideal.ieee, -EReal.coe_mul]; norm_num
theorem ofBits_four : Ideal.ofBits .f32 0x40800000#32 = 4 := by
  rw [show (4 : EReal) = ((4 : ℝ) : EReal) by norm_cast]
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_bot : Ideal.ofBits .f32 0xFF800000#32 = ⊥ := by
  simp [Ideal.ofBits, Ideal.ieee]

end Cert.Lif

end
-- ==== Proof.KernelSteps.lean ====
/- What the kernel body's long branch computes, in two readings. First, for any float values: its chain of values is four
   steps of three layers of leaky neurons, each step one function of whole blocks. Then, over the extended reals: one entry
   of the branch's result is the network of `Lif.lean` run on that entry's row of input currents. -/
module

public import proofs.«01_k».proof.Proof.KernelIdealBody
public import proofs.«01_k».proof.Proof.Lif
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.ValueIdx
open scoped BigOperators

/-! ## The steps on whole blocks, for any float values -/

section Blocks
variable {F : FTy → Type} [FloatOps F]

abbrev Blk (F : FTy → Type) := FVec F S1024x1024 .f32

/-- Charging every neuron of a block. -/
def chgV (v x : Blk F) : Blk F := addf v (divf (subf x v) (broadcast S1024x1024 (Scalar.ofBits .f32 0x40000000#32)))
/-- Which neurons of a block fire. -/
def firesV (u : Blk F) : IVec S1024x1024 1 :=
  cmpf .oge (subf u (broadcast S1024x1024 (Scalar.ofBits .f32 0x3F800000#32))) (broadcast S1024x1024 (Scalar.ofBits .f32 0x00000000#32))
/-- Their spikes. -/
def spikeV (u : Blk F) : Blk F :=
  select (firesV u) (broadcast S1024x1024 (Scalar.ofBits .f32 0x3F800000#32)) (broadcast S1024x1024 (Scalar.ofBits .f32 0x00000000#32))
/-- Their potentials after firing. -/
def rstV (u : Blk F) : Blk F := select (firesV u) (broadcast S1024x1024 (Scalar.ofBits .f32 0x00000000#32)) u
/-- The currents that a block of spikes sends through the weights `w`. -/
def dotV (s w : Blk F) : Blk F :=
  matmul dot_S1024x1024_S1024x1024_S1024x1024_1_1_0_0_n_n none s w (constant S1024x1024 .f32 0x00000000#32)
/-- The block of charged potentials at step `t`, from zero. -/
def potV (x : ℕ → Blk F) : ℕ → Blk F
  | 0 => chgV (broadcast S1024x1024 (Scalar.ofBits .f32 0x00000000#32)) (x 0)
  | t + 1 => chgV (rstV (potV x t)) (x (t + 1))

variable (p w2 w3 : Blk F)

/-- The three layers' charged potentials, and the currents between the layers, at step `t`. -/
def pot1 (t : ℕ) : Blk F := potV (fun _ => p) t
def cur2 (t : ℕ) : Blk F := dotV (spikeV (pot1 p t)) w2
def pot2 (t : ℕ) : Blk F := potV (cur2 p w2) t
def cur3 (t : ℕ) : Blk F := dotV (spikeV (pot2 p w2 t)) w3
def pot3 (t : ℕ) : Blk F := potV (cur3 p w2 w3) t

theorem pot1_succ (t : ℕ) : chgV (rstV (pot1 p t)) p = pot1 p (t + 1) := rfl
theorem pot2_succ (t : ℕ) : chgV (rstV (pot2 p w2 t)) (dotV (spikeV (pot1 p (t + 1))) w2) = pot2 p w2 (t + 1) := rfl
theorem pot3_succ (t : ℕ) : chgV (rstV (pot3 p w2 w3 t)) (dotV (spikeV (pot2 p w2 (t + 1))) w3) = pot3 p w2 w3 (t + 1) := rfl

/-! ### The first step -/

theorem va1_eq : va1 p = rstV (pot1 p 0) := rfl
theorem vb1_eq : vb1 p w2 = rstV (pot2 p w2 0) := rfl
theorem xc1_eq : xc1 p w2 w3 = dotV (spikeV (pot2 p w2 0)) w3 := rfl
theorem sc1_eq : sc1 p w2 w3 = spikeV (pot3 p w2 w3 0) := by unfold sc1; rw [xc1_eq]; rfl
theorem vc1_eq : vc1 p w2 w3 = rstV (pot3 p w2 w3 0) := by unfold vc1; rw [xc1_eq]; rfl

/-! ### The second step -/

theorem pay22_eq (v : Blk F) : k0_pay22 p v = rstV (chgV v p) := rfl
theorem pay23_eq (v u : Blk F) : k0_pay23 p v u w2 = chgV u (dotV (spikeV (chgV v p)) w2) := rfl
theorem pay24_eq (v u : Blk F) : k0_pay24 p v u w2 = firesV (k0_pay23 p v u w2) := rfl
theorem pay25_eq (v u : Blk F) : k0_pay25 p v u w2 = spikeV (k0_pay23 p v u w2) := rfl
theorem pay28_eq (v s : Blk F) : k0_pay28 v s w3 = rstV (chgV v (dotV s w3)) := rfl
theorem pay29_eq (a v s : Blk F) : k0_pay29 a v s w3 = addf a (spikeV (chgV v (dotV s w3))) := rfl

theorem va2_eq : va2 p = rstV (pot1 p 1) := by unfold va2; rw [va1_eq, pay22_eq, pot1_succ]
theorem ub2_eq : ub2 p w2 = pot2 p w2 1 := by unfold ub2; rw [va1_eq, vb1_eq, pay23_eq, pot1_succ, pot2_succ]
theorem fb2_eq : fb2 p w2 = firesV (pot2 p w2 1) := by unfold fb2; rw [pay24_eq]; exact congrArg firesV (ub2_eq p w2)
theorem sb2_eq : sb2 p w2 = spikeV (pot2 p w2 1) := by unfold sb2; rw [pay25_eq]; exact congrArg spikeV (ub2_eq p w2)
theorem vc2_eq : vc2 p w2 w3 = rstV (pot3 p w2 w3 1) := by unfold vc2; rw [vc1_eq, sb2_eq, pay28_eq, pot3_succ]
theorem sc2_eq : sc2 p w2 w3 = addf (spikeV (pot3 p w2 w3 0)) (spikeV (pot3 p w2 w3 1)) := by
  unfold sc2; rw [sc1_eq, vc1_eq, sb2_eq, pay29_eq, pot3_succ]

/-! ### The third step -/

theorem pay32_eq (v : Blk F) : k0_pay32 p v = rstV (chgV v p) := rfl
theorem pay33_eq (v u : Blk F) : k0_pay33 p v u (firesV u) zf w2 = chgV (rstV u) (dotV (spikeV (chgV v p)) w2) := rfl
theorem pay34_eq (v u : Blk F) (f : IVec S1024x1024 1) : k0_pay34 p v u f zf w2
    = subf (k0_pay33 p v u f zf w2) (broadcast S1024x1024 (Scalar.ofBits .f32 0x3F800000#32)) := rfl
theorem pay36_eq (u : Blk F) :
    k0_pay36 u (subf u (broadcast S1024x1024 (Scalar.ofBits .f32 0x3F800000#32))) zf = rstV u := rfl
theorem pay39_eq (v u : Blk F) : k0_pay39 v (subf u (broadcast S1024x1024 (Scalar.ofBits .f32 0x3F800000#32))) zf w3
    = rstV (chgV v (dotV (spikeV u) w3)) := rfl
theorem pay40_eq (v a u : Blk F) : k0_pay40 v a (subf u (broadcast S1024x1024 (Scalar.ofBits .f32 0x3F800000#32))) zf w3
    = addf a (spikeV (chgV v (dotV (spikeV u) w3))) := rfl

theorem va3_eq : va3 p = rstV (pot1 p 2) := by unfold va3; rw [va2_eq, pay32_eq, pot1_succ]
theorem ub3_eq : ub3 p w2 = pot2 p w2 2 := by
  unfold ub3; rw [va2_eq, ub2_eq, fb2_eq, pay33_eq, pot1_succ, pot2_succ]
theorem db3_eq : db3 p w2 = subf (pot2 p w2 2) (broadcast S1024x1024 (Scalar.ofBits .f32 0x3F800000#32)) := by
  unfold db3; rw [pay34_eq]; exact congrArg (fun u => subf u _) (ub3_eq p w2)
theorem vb3_eq : vb3 p w2 = rstV (pot2 p w2 2) := by unfold vb3; rw [ub3_eq, db3_eq, pay36_eq]
theorem vc3_eq : vc3 p w2 w3 = rstV (pot3 p w2 w3 2) := by unfold vc3; rw [vc2_eq, db3_eq, pay39_eq, pot3_succ]
theorem sc3_eq : sc3 p w2 w3
    = addf (addf (spikeV (pot3 p w2 w3 0)) (spikeV (pot3 p w2 w3 1))) (spikeV (pot3 p w2 w3 2)) := by
  unfold sc3; rw [vc2_eq, sc2_eq, db3_eq, pay40_eq, pot3_succ]

/-! ### The fourth step and the readout -/

/-- The readout of a block of spike averages. -/
def readV (f : Blk F) (wm : FVec F S32x1024 .f32) : FVec F S1024x32 .f32 :=
  tanh (matmul dot_S1024x1024_S32x1024_S1024x32_1_1_0_0_n_n none f wm (constant S1024x32 .f32 0x00000000#32))

/-- The third layer's spikes added over the four steps and divided by four. -/
def featV : Blk F :=
  mulf (addf (addf (addf (spikeV (pot3 p w2 w3 0)) (spikeV (pot3 p w2 w3 1))) (spikeV (pot3 p w2 w3 2)))
    (spikeV (pot3 p w2 w3 3))) (broadcast S1024x1024 (Scalar.ofBits .f32 0x3E800000#32))

theorem pay41_eq (v u : Blk F) : addf (rstV u)
      (k0_pay41 p v u (subf u (broadcast S1024x1024 (Scalar.ofBits .f32 0x3F800000#32))) zf w2)
    = chgV (rstV u) (dotV (spikeV (chgV v p)) w2) := rfl
theorem pay6_eq (b v a d : Blk F) (wm : FVec F S32x1024 .f32) : k0_pay6 b v a d w3 wm
    = readV (mulf (addf a (spikeV (chgV v (dotV (spikeV (addf b d)) w3))))
        (broadcast S1024x1024 (Scalar.ofBits .f32 0x3E800000#32))) wm := rfl

theorem last2_eq : addf (vb3 p w2) (db4 p w2) = pot2 p w2 3 := by
  unfold db4; rw [vb3_eq, va3_eq, ub3_eq, db3_eq, pay41_eq, pot1_succ, pot2_succ]

/-- The long branch's first result is the readout of the average of the third layer's spikes. -/
theorem amBusy_eq (wm : FVec F S32x1024 .f32) : amBusy p w2 w3 wm = readV (featV p w2 w3) wm := by
  unfold amBusy; rw [pay6_eq, last2_eq, vc3_eq, sc3_eq, pot3_succ]; rfl

end Blocks

/-! ## The entries of a block over the extended reals -/

section Entries

theorem chgV_apply (v x : Blk Ideal) (i : S1024x1024.Idx) : chgV v x i = Lif.chg (v i) (x i) := by
  show v i + Ideal.div (x i - v i) (Ideal.ofBits .f32 0x40000000#32) = _
  rw [Lif.ofBits_two]; rfl

theorem fires_apply (u : Blk Ideal) (i : S1024x1024.Idx) : firesV u i = Ideal.cmp .oge (u i - 1) 0 := by
  show Ideal.cmp .oge (u i - Ideal.ofBits .f32 0x3F800000#32) (Ideal.ofBits .f32 0x00000000#32) = _
  rw [Ideal.ofBits_one_f32, Ideal.ofBits_zero_f32]

theorem select_fires {u x y : EReal} :
    (if Ideal.cmp .oge (u - 1) 0 = 1#1 then x else y) = if 0 ≤ u - 1 then x else y := by
  unfold Ideal.cmp
  by_cases h : 0 ≤ u - 1 <;> simp [h]

theorem spikeV_apply (u : Blk Ideal) (i : S1024x1024.Idx) : spikeV u i = Lif.spike (u i) := by
  show (if firesV u i = 1#1 then Ideal.ofBits .f32 0x3F800000#32 else Ideal.ofBits .f32 0x00000000#32) = _
  rw [fires_apply, select_fires, Ideal.ofBits_one_f32, Ideal.ofBits_zero_f32]; rfl

theorem rstV_apply (u : Blk Ideal) (i : S1024x1024.Idx) : rstV u i = Lif.rst (u i) := by
  show (if firesV u i = 1#1 then Ideal.ofBits .f32 0x00000000#32 else u i) = _
  rw [fires_apply, select_fires, Ideal.ofBits_zero_f32]; rfl

/-- The currents a block of spikes sends, at one entry. -/
theorem dotV_apply (s w : Blk Ideal) (r j : Fin 1024) :
    dotV s w (ix2 r j) = Lif.dot (fun k => s (ix2 r k)) (fun k => w (ix2 j k)) := by
  refine (Ideal.matmul_transposedRhs_apply (M := 1024) (K := 1024) (N := 1024) none s w _ r j).trans ?_
  show Ideal.ofBits .f32 0x00000000#32 + _ = _
  rw [Ideal.ofBits_zero_f32, zero_add]; rfl

theorem potV_apply (x : ℕ → Blk Ideal) (t : ℕ) (i : S1024x1024.Idx) : potV x t i = Lif.pot (fun t => x t i) t := by
  induction t with
  | zero =>
    show chgV _ _ i = _
    rw [chgV_apply]
    show Lif.chg (Ideal.ofBits .f32 0x00000000#32) _ = _
    rw [Ideal.ofBits_zero_f32]; rfl
  | succ t ih =>
    show chgV _ _ i = _
    rw [chgV_apply, rstV_apply, ih]; rfl

variable (p w2 w3 : Blk Ideal)

/-- One row of a block, and a block of weights as a function of its two coordinates. -/
abbrev row (p : Blk Ideal) (r : Fin 1024) : Fin 1024 → EReal := fun k => p (ix2 r k)
abbrev wt (w : Blk Ideal) : Fin 1024 → Fin 1024 → EReal := fun j k => w (ix2 j k)

theorem spike1_apply (t : ℕ) (r k : Fin 1024) : spikeV (pot1 p t) (ix2 r k) = Lif.layer1 (row p r) t k := by
  rw [spikeV_apply, pot1, potV_apply]; rfl

theorem spike2_apply (t : ℕ) (r j : Fin 1024) :
    spikeV (pot2 p w2 t) (ix2 r j) = Lif.layerNext (Lif.layer1 (row p r)) (wt w2) t j := by
  rw [spikeV_apply, pot2, potV_apply]
  have h : (fun t => cur2 p w2 t (ix2 r j)) = fun t => Lif.dot (Lif.layer1 (row p r) t) (wt w2 j) := funext fun t => by
    rw [cur2, dotV_apply]; simp only [spike1_apply]
  rw [h]; rfl

theorem spike3_apply (t : ℕ) (r j : Fin 1024) :
    spikeV (pot3 p w2 w3 t) (ix2 r j) = Lif.layer3 (row p r) (wt w2) (wt w3) t j := by
  rw [spikeV_apply, pot3, potV_apply]
  have h : (fun t => cur3 p w2 w3 t (ix2 r j))
      = fun t => Lif.dot (Lif.layerNext (Lif.layer1 (row p r)) (wt w2) t) (wt w3 j) := funext fun t => by
    rw [cur3, dotV_apply]; simp only [spike2_apply]
  rw [h]; rfl

theorem featV_apply (r j : Fin 1024) : featV p w2 w3 (ix2 r j) = Lif.feat (row p r) (wt w2) (wt w3) j := by
  show (spikeV (pot3 p w2 w3 0) (ix2 r j) + spikeV (pot3 p w2 w3 1) (ix2 r j) + spikeV (pot3 p w2 w3 2) (ix2 r j)
      + spikeV (pot3 p w2 w3 3) (ix2 r j)) * Ideal.ofBits .f32 0x3E800000#32 = _
  rw [spike3_apply, spike3_apply, spike3_apply, spike3_apply, Lif.ofBits_quarter, Lif.feat, Lif.div_four,
    Fin.sum_univ_four]
  rfl

/-- One entry of the long branch's first result: the network's readout on that entry's row of input currents. -/
theorem amBusy_apply (wm : FVec Ideal S32x1024 .f32) (r : Fin 1024) (c : Fin 32) :
    amBusy p w2 w3 wm (ix2 r c) = Lif.readout (row p r) (wt w2) (wt w3) (fun k => wm (ix2 c k)) := by
  rw [amBusy_eq]
  unfold Lif.readout
  refine congrArg Ideal.tanh ?_
  refine (Ideal.matmul_transposedRhs_apply (M := 1024) (K := 1024) (N := 32) none (featV p w2 w3) wm _ r c).trans ?_
  show Ideal.ofBits .f32 0x00000000#32 + _ = _
  rw [Ideal.ofBits_zero_f32, zero_add]
  simp only [featV_apply]; rfl

end Entries

end Cert.KernelIdeal.Hand

end
-- ==== Proof.KernelBlock.lean ====
/- One entry of what the kernel body leaves in its two result blocks, over the extended reals: the network of `Lif.lean` on
   that entry's row, whichever of its two branches the body takes. The short branch is taken when no input current of the
   whole block reaches the threshold, and then the network's readout is zero. -/
module

public import proofs.«01_k».proof.Proof.KernelSteps
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx
open scoped BigOperators

variable (x0 : Vec Ideal S1024x128 .f32) (x1 : Vec Ideal S1024x64 .f32) (x2 : Vec Ideal S192x1024 .f32)
  (x3 : Vec Ideal S1x32 .f32) (w2 w3 : Blk Ideal) (wm : FVec Ideal S32x1024 .f32)

/-- The observation and the context side by side, at one entry. -/
theorem concat_apply (r : Fin 1024) (k : Fin 192) :
    concatenate S1024x192 1 [⟨S1024x128, x0⟩, ⟨S1024x64, x1⟩] concatenates_S1024x128_S1024x64_S1024x192_d1 (ix2 r k)
      = if h : k.val < 128 then x0 (ix2 r ⟨k.val, h⟩) else x1 (ix2 r ⟨k.val - 128, by omega⟩) := by
  split
  · next h =>
    refine concatenate_pair_apply_left (1 : Fin 2) x0 x1 _ (ix2 r k) rfl (ix2 r ⟨k.val, h⟩) fun b => ?_
    match b with
    | ⟨0, _⟩ => rfl
    | ⟨1, _⟩ => rfl
  · next h =>
    refine concatenate_pair_apply_right (1 : Fin 2) x0 x1 _ (ix2 r k) rfl rfl (ix2 r ⟨k.val - 128, by omega⟩)
      (fun b hb => ?_) ?_
    · match b with
      | ⟨0, _⟩ => rfl
      | ⟨1, _⟩ => exact absurd rfl hb
    · show k.val - 128 + 128 = k.val
      omega

/-- One entry of the block of input currents. -/
theorem pay1_apply (r j : Fin 1024) : k0_pay1 x0 x1 x2 (ix2 r j)
    = Lif.pre (fun k => x0 (ix2 r k)) (fun k => x1 (ix2 r k)) (fun k => x2 (ix2 k j)) := by
  refine (Ideal.matmul_plain_apply (M := 1024) (K := 192) (N := 1024) none _ _ _ r j).trans ?_
  show Ideal.ofBits .f32 0x00000000#32 + _ = _
  rw [Ideal.ofBits_zero_f32, zero_add, shapeCast_self]
  exact Finset.sum_congr rfl fun k _ => congrArg (· * x2 (ix2 k j)) (concat_apply x0 x1 r k)

/-- A number failing the test against the printed one is below one. -/
theorem lt_one_of_not {u : EReal}
    (h : ¬ Scalar.cmpf (F := Ideal) (φ := .f32) .oge u (FloatOps.ofBits .f32 0x3F800000#32) = 1#1) : u < 1 := by
  change ¬ Ideal.cmp .oge u (Ideal.ofBits .f32 0x3F800000#32) = 1#1 at h
  rw [Ideal.ofBits_one_f32] at h
  unfold Ideal.cmp at h
  by_contra hc
  exact h (by simp [not_lt.mp hc])

/-- The block's maximum is at least each of its entries: below one, so are they all. -/
theorem lt_of_max_lt (p : Blk Ideal) (i : S1.Idx)
    (h : multiReduction .maximumf [1, 2] S1 (shapeCast S1x1024x1024 p shapeCasts_S1024x1024_S1x1024x1024) 0xFF800000#32
      reduces_S1x1024x1024_S1 (.inl rfl) rfl i < (1 : EReal)) (r j : Fin 1024) : p (ix2 r j) < 1 := by
  replace h := (multiReduction_maximumf_eq_fold _ _ _ _ _ _).symm.trans_lt h
  have h2 := (Finset.fold_max_lt (c := (1 : EReal))).mp h |>.2 (ix3 (0 : Fin 1) r j) (by
    rw [Finset.mem_filter]
    refine ⟨Finset.mem_univ _, funext fun a => Fin.ext ?_⟩
    have e : S1.size a = 1 := by match a with | ⟨0, _⟩ => rfl
    have := (reduces_S1x1024x1024_S1.drop (ix3 (0 : Fin 1) r j) a).isLt
    have := (i a).isLt
    omega)
  rwa [shapeCast_apply p shapeCasts_S1024x1024_S1x1024x1024 (ix3 (0 : Fin 1) r j) (ix2 r j) (by
    rw [Shape.rowMajor_val_two, Shape.rowMajor_val_three]
    show r.val * 1024 + j.val = (0 * 1024 + r.val) * 1024 + j.val
    omega)] at h2

/-- The one number read out of a one-entry vector is an entry of it. -/
theorem extract_one (y : FVec Ideal S1 .f32) :
    ∃ i, extractAt ![0, 0, 0] (shapeCast S1x1x1 y shapeCasts_S1_S1x1x1) inpos_S1x1x1_p0_0_0 = y i := ⟨_, rfl⟩

/-- When the block does not spike, no input current of it reaches the threshold. -/
theorem lt_of_not_spiked (h : ¬ Spiked x0 x1 x2) (r j : Fin 1024) : k0_pay1 x0 x1 x2 (ix2 r j) < 1 := by
  unfold Spiked at h
  have h1 := lt_one_of_not h
  unfold k0_pay2 at h1
  dsimp only at h1
  obtain ⟨i, hi⟩ := extract_one (multiReduction .maximumf [1, 2] S1
    (shapeCast S1x1024x1024 (k0_pay1 x0 x1 x2) shapeCasts_S1024x1024_S1x1024x1024) 0xFF800000#32
    reduces_S1x1024x1024_S1 (.inl rfl) rfl)
  rw [hi] at h1
  exact lt_of_max_lt (k0_pay1 x0 x1 x2) i h1 r j

/-- The network's output at row `r` and readout `c`, on the body's operands. -/
abbrev blockOut (r : Fin 1024) (c : Fin 32) : EReal :=
  Lif.readout (fun j => Lif.pre (fun k => x0 (ix2 r k)) (fun k => x1 (ix2 r k)) (fun k => x2 (ix2 k j)))
    (wt w2) (wt w3) (fun k => wm (ix2 c k))

theorem row_pay1 (r : Fin 1024) : row (k0_pay1 x0 x1 x2) r
    = fun j => Lif.pre (fun k => x0 (ix2 r k)) (fun k => x1 (ix2 r k)) (fun k => x2 (ix2 k j)) :=
  funext fun j => pay1_apply x0 x1 x2 r j

/-- One entry of the first result's block: the network's output. -/
theorem outAm_apply (r : Fin 1024) (c : Fin 32) : outAm x0 x1 x2 w2 w3 wm (ix2 r c) = blockOut x0 x1 x2 w2 w3 wm r c := by
  unfold outAm
  split
  · rw [amBusy_apply, row_pay1]
  · next h =>
    refine Eq.trans ?_ (Lif.readout_quiet (fun j => ?_) _ _ _).symm
    · show Ideal.ofBits .f32 0x00000000#32 = 0
      exact Ideal.ofBits_zero_f32
    · rw [← pay1_apply]; exact lt_of_not_spiked x0 x1 x2 h r j

/-- One entry of the clipped noise row. -/
theorem pay3_apply (c : Fin 32) : k0_pay3 x3 (ix2 (0 : Fin 1) c) = Lif.clip (x3 (ix2 (0 : Fin 1) c)) := by
  unfold k0_pay3
  simp only [shapeCast_self]
  rfl

/-- A row laid along every row of a block, at one entry. -/
theorem broadcastTo_row (y : FVec Ideal S1x32 .f32) (r : Fin 1024) (c : Fin 32) :
    broadcastTo S1024x32 y broadcasts_S1x32_S1024x32 (ix2 r c) = y (ix2 (0 : Fin 1) c) :=
  broadcastTo_apply y _ (ix2 r c) (ix2 (0 : Fin 1) c) fun a => by
    match a with
    | ⟨0, _⟩ => rfl
    | ⟨1, _⟩ => rfl

/-- One entry of the second result's block: the network's output with the clipped noise added. -/
theorem outAct_apply (r : Fin 1024) (c : Fin 32) : outAct x0 x1 x2 x3 w2 w3 wm (ix2 r c)
    = blockOut x0 x1 x2 w2 w3 wm r c + Lif.clip (x3 (ix2 (0 : Fin 1) c)) := by
  rw [← outAm_apply]
  unfold outAct outAm
  split
  · show amBusy (k0_pay1 x0 x1 x2) w2 w3 wm (ix2 r c) + broadcastTo S1024x32 (k0_pay3 x3) _ (ix2 r c) = _
    rw [broadcastTo_row, pay3_apply]
  · unfold k0_pay5
    simp only [shapeCast_self]
    rw [broadcastTo_row, pay3_apply]
    show _ = Ideal.ofBits .f32 0x00000000#32 + _
    rw [Ideal.ofBits_zero_f32, zero_add]

end Cert.KernelIdeal.Hand

end
-- ==== Proof.Result.lean ====
/- The two result arrays the kernel and the reference are both shown to leave, as functions of the argument arrays. -/
module

public import proofs.«01_k».proof.Proof.Lif
public import Idealize.ShloMosaic.Lib.ValueIdx

@[expose] public section

noncomputable section

namespace Cert.Lif

open Idealize.ShloMosaic Idealize.ShloMosaic.ValueIdx

/-- A two-axis array of extended reals. -/
abbrev Arr (a b : Nat) := FVec Ideal (⟨2, ![a, b]⟩ : Shape) .f32

variable (obs : Arr 16384 128) (ctx : Arr 16384 64) (noise : FVec Ideal (⟨1, ![32]⟩ : Shape) .f32) (w1 : Arr 1024 192)
  (w2 w3 : Arr 1024 1024) (wm : Arr 32 1024)

/-- The network's output for sample `b` and readout `c`. -/
def netAt (b : Fin 16384) (c : Fin 32) : EReal :=
  readout (fun j => pre (fun k => obs (ix2 b k)) (fun k => ctx (ix2 b k)) (fun k => w1 (ix2 j k)))
    (fun j k => w2 (ix2 j k)) (fun j k => w3 (ix2 j k)) (fun k => wm (ix2 c k))

/-- The first result: the network's output of every sample. -/
def am : Arr 16384 32 := fun i => netAt obs ctx w1 w2 w3 wm ⟨i 0, (i 0).isLt⟩ ⟨i 1, (i 1).isLt⟩

/-- The second result: the same with the clipped noise of each readout added. -/
def act : Arr 16384 32 := fun i => am obs ctx w1 w2 w3 wm i + clip (noise (ix1 ⟨i 1, (i 1).isLt⟩))

end Cert.Lif

end
-- ==== Proof.KernelArrays.lean ====
/- The two result arrays after the kernel's run, over the extended reals. A grid point writes back 1024 rows of each, and what
   it writes is those rows of one whole-array function of the arguments; the sixteen blocks tile the arrays. -/
module

public import proofs.«01_k».proof.Proof.KernelBlock
public import proofs.«01_k».proof.Proof.KernelIdealRun
public import proofs.«01_k».proof.Proof.Result
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## What the region finds in the two arrays the host prepares -/

/-- The transposed first weight matrix at an entry. -/
theorem v0_apply (k : Fin 192) (j : Fin 1024) :
    V m c main_v0 (ix2 k j) = m ((c : Thread nD τ).loc main_arg3) (ix2 j k) := by
  have e : V m c main_v0 = transpose S192x1024 [1, 0] (m ((c : Thread nD τ).loc main_arg3))
      transposes_S1024x192_S192x1024_1_0 := by
    show StableHlo.after hostOps0 (fun b => m (c, b)) (Proc.devRef .tc main_v0) = _
    after_results
  rw [e]
  exact transpose_apply _ _ _ (ix2 k j) (ix2 j k) fun a => by
    match a with
    | ⟨0, _⟩ => rfl
    | ⟨1, _⟩ => rfl

/-- The noise as a row, at an entry. -/
theorem v1_apply (j : Fin 32) :
    V m c main_v1 (ix2 (0 : Fin 1) j) = m ((c : Thread nD τ).loc main_arg2) (ix1 j) := by
  have e : V m c main_v1 = shapeCast S1x32 (m ((c : Thread nD τ).loc main_arg2)) shapeCasts_S32_S1x32 := by
    show StableHlo.after hostOps0 (fun b => m (c, b)) (Proc.devRef .tc main_v1) = _
    after_results
    rfl
  rw [e]
  exact shapeCast_apply _ _ (ix2 (0 : Fin 1) j) (ix1 j) (by
    rw [Shape.rowMajor_val_two, Shape.rowMajor_val_one]
    show j.val = 0 * 32 + j.val
    omega)

/-! ## Where the blocks lie -/

/-- At grid point `t` the two inputs' and the two results' blocks are the `t`-th of 1024 rows, all columns; the other two
    windows hold their whole arrays. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row `r` of the `t`-th block, as a row of the whole array. -/
def rowAt (t : Fin cfg0.N) (r : Fin 1024) : Fin 16384 :=
  ⟨t.val * 1024 + r.val, by have h1 := t.isLt; have h2 : cfg0.N = 16 := N_0; omega⟩

theorem iblk0_apply (t : Fin cfg0.N) (r : Fin 1024) (k : Fin 128) :
    iblk m c 0 t (ix2 r k) = m ((c : Thread nD τ).loc main_arg0) (ix2 (rowAt t r) k) := by
  rw [← V_main_arg0 m c]
  show V m c main_arg0 (((cfg0.win 0).blk t).view.emb (ix2 r k)) = _
  congr 1
  funext a
  apply Fin.ext
  obtain ⟨⟨e0, e1⟩, -⟩ := idx_facts t
  match a with
  | ⟨0, _⟩ => show win0_0.index t (0 : Fin 2) * 1024 + 1 * r.val = t.val * 1024 + r.val; rw [e0]; omega
  | ⟨1, _⟩ => show win0_0.index t (1 : Fin 2) * 128 + 1 * k.val = k.val; rw [e1]; omega

theorem iblk1_apply (t : Fin cfg0.N) (r : Fin 1024) (k : Fin 64) :
    iblk m c 1 t (ix2 r k) = m ((c : Thread nD τ).loc main_arg1) (ix2 (rowAt t r) k) := by
  rw [← V_main_arg1 m c]
  show V m c main_arg1 (((cfg0.win 1).blk t).view.emb (ix2 r k)) = _
  congr 1
  funext a
  apply Fin.ext
  obtain ⟨-, ⟨e0, e1⟩, -⟩ := idx_facts t
  match a with
  | ⟨0, _⟩ => show win0_1.index t (0 : Fin 2) * 1024 + 1 * r.val = t.val * 1024 + r.val; rw [e0]; omega
  | ⟨1, _⟩ => show win0_1.index t (1 : Fin 2) * 64 + 1 * k.val = k.val; rw [e1]; omega

theorem iblk2_apply (t : Fin cfg0.N) (k : Fin 192) (j : Fin 1024) :
    iblk m c 2 t (ix2 k j) = m ((c : Thread nD τ).loc main_arg3) (ix2 j k) := by
  rw [← v0_apply m c]
  show V m c main_v0 (((cfg0.win 2).blk t).view.emb (ix2 k j)) = _
  congr 1
  funext a
  apply Fin.ext
  obtain ⟨-, -, ⟨e0, e1⟩, -⟩ := idx_facts t
  match a with
  | ⟨0, _⟩ => show win0_2.index t (0 : Fin 2) * 192 + 1 * k.val = k.val; rw [e0]; omega
  | ⟨1, _⟩ => show win0_2.index t (1 : Fin 2) * 1024 + 1 * j.val = j.val; rw [e1]; omega

theorem iblk3_apply (t : Fin cfg0.N) (j : Fin 32) :
    iblk m c 3 t (ix2 (0 : Fin 1) j) = m ((c : Thread nD τ).loc main_arg2) (ix1 j) := by
  rw [← v1_apply m c]
  show V m c main_v1 (((cfg0.win 3).blk t).view.emb (ix2 (0 : Fin 1) j)) = _
  congr 1
  funext a
  apply Fin.ext
  obtain ⟨-, -, -, ⟨e0, e1⟩, -⟩ := idx_facts t
  match a with
  | ⟨0, _⟩ => show win0_3.index t (0 : Fin 2) * 1 + 1 * 0 = 0; rw [e0]
  | ⟨1, _⟩ => show win0_3.index t (1 : Fin 2) * 32 + 1 * j.val = j.val; rw [e1]; omega

/-! ## The arrays after the run -/

/-- The first result of the arguments. -/
abbrev amOf : Buf (Elt Ideal) ((c : Thread nD τ).loc main_v2_0) :=
  Lif.am (m ((c : Thread nD τ).loc main_arg0)) (m ((c : Thread nD τ).loc main_arg1)) (m ((c : Thread nD τ).loc main_arg3))
    (m ((c : Thread nD τ).loc main_arg5)) (m ((c : Thread nD τ).loc main_arg7)) (m ((c : Thread nD τ).loc main_arg9))

/-- The second result of the arguments. -/
abbrev actOf : Buf (Elt Ideal) ((c : Thread nD τ).loc main_v2_1) :=
  Lif.act (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg9))

/-- The network's output on a grid point's blocks is its output for the block's samples. -/
theorem blockOut_eq (t : Fin cfg0.N) (r : Fin 1024) (j : Fin 32) :
    blockOut (iblk m c 0 t) (iblk m c 1 t) (iblk m c 2 t) (V m c main_arg5) (V m c main_arg7) (V m c main_arg9) r j
      = Lif.netAt (m ((c : Thread nD τ).loc main_arg0)) (m ((c : Thread nD τ).loc main_arg1))
          (m ((c : Thread nD τ).loc main_arg3)) (m ((c : Thread nD τ).loc main_arg5)) (m ((c : Thread nD τ).loc main_arg7))
          (m ((c : Thread nD τ).loc main_arg9)) (rowAt t r) j := by
  rw [V_main_arg5, V_main_arg7, V_main_arg9]
  unfold blockOut Lif.netAt
  congr 1
  funext i
  congr 1
  · funext k; exact iblk0_apply m c t r k
  · funext k; exact iblk1_apply m c t r k
  · funext k; exact iblk2_apply m c t k i

theorem am_block (t : Fin cfg0.N) (r : Fin 1024) (j : Fin 32) :
    amAt m c t (ix2 r j) = amOf m c (ix2 (rowAt t r) j) := by
  unfold amAt
  rw [outAm_apply, blockOut_eq]
  rfl

theorem act_block (t : Fin cfg0.N) (r : Fin 1024) (j : Fin 32) :
    actAt m c t (ix2 r j) = actOf m c (ix2 (rowAt t r) j) := by
  unfold actAt
  rw [outAct_apply, blockOut_eq, iblk3_apply]
  rfl

/-- A position in the `t`-th block of the first result, as a position of the whole array. -/
theorem emb4 (t : Fin cfg0.N) (r : Fin 1024) (j : Fin 32) :
    ((cfg0.win 4).blk t).view.emb (ix2 r j) = ix2 (rowAt t r) j := by
  funext a
  apply Fin.ext
  obtain ⟨-, -, -, -, ⟨e0, e1⟩, -⟩ := idx_facts t
  match a with
  | ⟨0, _⟩ => show win0_4.index t (0 : Fin 2) * 1024 + 1 * r.val = t.val * 1024 + r.val; rw [e0]; omega
  | ⟨1, _⟩ => show win0_4.index t (1 : Fin 2) * 32 + 1 * j.val = j.val; rw [e1]; omega

theorem emb5 (t : Fin cfg0.N) (r : Fin 1024) (j : Fin 32) :
    ((cfg0.win 5).blk t).view.emb (ix2 r j) = ix2 (rowAt t r) j := by
  funext a
  apply Fin.ext
  obtain ⟨-, -, -, -, -, ⟨e0, e1⟩⟩ := idx_facts t
  match a with
  | ⟨0, _⟩ => show win0_5.index t (0 : Fin 2) * 1024 + 1 * r.val = t.val * 1024 + r.val; rw [e0]; omega
  | ⟨1, _⟩ => show win0_5.index t (1 : Fin 2) * 32 + 1 * j.val = j.val; rw [e1]; omega

/-- What a grid point writes back of each result is its block of that whole-array function. -/
theorem flushed4_eq (t : Fin cfg0.N) :
    (dats m 0 c).flushed 4 t = (win0_4.blk t).view.read (Elt Ideal) (amOf m c) := by
  show (cfg0.win 4).cut (grid0.coords t) ((dats m 0 c).after 4 t) = _
  rw [after4]
  funext i
  obtain ⟨r, j, rfl⟩ : ∃ (r : Fin 1024) (j : Fin 32), i = ix2 r j := ⟨i 0, i 1, eq_ix2 i⟩
  show amAt m c t (ix2 r j) = amOf m c (((cfg0.win 4).blk t).view.emb (ix2 r j))
  rw [emb4, am_block]

theorem flushed5_eq (t : Fin cfg0.N) :
    (dats m 0 c).flushed 5 t = (win0_5.blk t).view.read (Elt Ideal) (actOf m c) := by
  show (cfg0.win 5).cut (grid0.coords t) ((dats m 0 c).after 5 t) = _
  rw [after5]
  funext i
  obtain ⟨r, j, rfl⟩ : ∃ (r : Fin 1024) (j : Fin 32), i = ix2 r j := ⟨i 0, i 1, eq_ix2 i⟩
  show actAt m c t (ix2 r j) = actOf m c (((cfg0.win 5).blk t).view.emb (ix2 r j))
  rw [emb5, act_block]

/-- The grid point that writes a given row, and the row's place in its block. -/
theorem row_block (b : Fin 16384) : ∃ (t : Fin cfg0.N) (r : Fin 1024), rowAt t r = b := by
  have hN : cfg0.N = 16 := N_0
  refine ⟨⟨b.val / 1024, by omega⟩, ⟨b.val % 1024, by omega⟩, Fin.ext ?_⟩
  show b.val / 1024 * 1024 + b.val % 1024 = b.val
  omega

/-- Every position of either result is in some block written back. -/
theorem cover4 (i : S16384x32.Idx) : ∃ t : Fin cfg0.N, (cfg0.win 4).flush t = true ∧ i ∈ ((cfg0.win 4).blk t).view.set := by
  obtain ⟨b, j, rfl⟩ : ∃ (b : Fin 16384) (j : Fin 32), i = ix2 b j := ⟨i 0, i 1, eq_ix2 i⟩
  obtain ⟨t, r, rfl⟩ := row_block b
  refine ⟨t, flush0_4 t, ?_⟩
  rw [← emb4 t r j]
  exact Finset.mem_map_of_mem _ (Finset.mem_univ _)

theorem cover5 (i : S16384x32.Idx) : ∃ t : Fin cfg0.N, (cfg0.win 5).flush t = true ∧ i ∈ ((cfg0.win 5).blk t).view.set := by
  obtain ⟨b, j, rfl⟩ : ∃ (b : Fin 16384) (j : Fin 32), i = ix2 b j := ⟨i 0, i 1, eq_ix2 i⟩
  obtain ⟨t, r, rfl⟩ := row_block b
  refine ⟨t, flush0_5 t, ?_⟩
  rw [← emb5 t r j]
  exact Finset.mem_map_of_mem _ (Finset.mem_univ _)

theorem final4 : (dats m 0 c).arrAt 4 cfg0.N = amOf m c :=
  (dats m 0 c).arrAt_eq_of_cover 4 (amOf m c) (fun t _ => flushed4_eq m c t) cover4

theorem final5 : (dats m 0 c).arrAt 5 cfg0.N = actOf m c :=
  (dats m 0 c).arrAt_eq_of_cover 5 (actOf m c) (fun t _ => flushed5_eq m c t) cover5

/-- The kernel's run: the two results hold the network's output without and with the clipped noise, and the arguments are
    kept. -/
theorem run_values : θ_run defs (onTc (τ := τ) (main (F := Ideal))) ⟨m, fun _ => 0, ρ⟩ (fun r => ∀ c : Dev nD,
    r.2.mem ((c : Thread nD τ).loc main_v2_0) = amOf m c ∧ r.2.mem ((c : Thread nD τ).loc main_v2_1) = actOf m c
      ∧ ArgsKept m r c) :=
  (θ_run defs _ _).mono (fun _ h c => ⟨((h.1 c).1 4).trans (final4 m c), ((h.1 c).1 5).trans (final5 m c), argsKept h.1 c⟩)
    (run_main m ρ)

end Cert.KernelIdeal.Hand

end
-- ==== Proof.RefLayer.lean ====
/- One layer of the reference, over the extended reals: what its four unrolled time steps leave, and the linear map between two
   layers, read at one entry. The reference runs the same layer three times, so each fact is proved once here. -/
module

public import proofs.«01_k».proof.Proof.Gen.ReferenceIdeal
public import proofs.«01_k».proof.Proof.Result
public import Idealize.ShloMosaic.Lib.Pipeline.Value
public import Idealize.ShloMosaic.Lib.StackMember

@[expose] public section

set_option maxRecDepth 16384

noncomputable section

namespace Cert.ReferenceIdeal.Layer

open Cert.ReferenceIdeal Cert.ReferenceIdeal.Gen
open Idealize.ShloMosaic Idealize.ShloMosaic.ValueIdx
open scoped BigOperators

/-- One time step of a layer, and all four of them. -/
abbrev Slab := FVec Ideal S16384x1024 .f32
abbrev Seq := FVec Ideal S4x16384x1024 .f32

/-! ## The four time steps -/

/-- A printed number at every entry. -/
def splat (w : BitVec 32) : Slab := broadcastInDim S16384x1024 ![] bcast_S_S16384x1024 (constant S_ .f32 w)
/-- The currents of the step at offset `off`. -/
def cur (off : Fin 3 → Nat) (h : S4x16384x1024.Slices off S1x16384x1024) (X : Seq) : Slab :=
  shapeCast S16384x1024 (extractStridedSlice S1x16384x1024 off X h) shapeCasts_S1x16384x1024_S16384x1024
/-- Charging. -/
def charge (v x : Slab) : Slab := addf v (Host.divf (subf x v) (splat 0x40000000#32))
/-- The spikes. -/
def fire (u : Slab) : Slab := uitofp .f32 (cmpf .oge (subf u (splat 0x3F800000#32)) (splat 0x00000000#32))
/-- What is left after firing. -/
def reset (u : Slab) : Slab := mulf u (subf (splat 0x3F800000#32) (fire u))

def u0 (X : Seq) : Slab := charge (splat 0x00000000#32) (cur ![0, 0, 0] slices_S4x16384x1024_S1x16384x1024_0_0_0 X)
def u1 (X : Seq) : Slab := charge (reset (u0 X)) (cur ![1, 0, 0] slices_S4x16384x1024_S1x16384x1024_1_0_0 X)
def u2 (X : Seq) : Slab := charge (reset (u1 X)) (cur ![2, 0, 0] slices_S4x16384x1024_S1x16384x1024_2_0_0 X)
def u3 (X : Seq) : Slab := charge (reset (u2 X)) (cur ![3, 0, 0] slices_S4x16384x1024_S1x16384x1024_3_0_0 X)

/-- Four slabs laid one after another in time. -/
def stack (s0 s1 s2 s3 : Slab) : Seq :=
  concatenate S4x16384x1024 0
    [⟨S1x16384x1024, broadcastInDim S1x16384x1024 ![1, 2] bcast_S16384x1024_S1x16384x1024_1_2 s0⟩,
     ⟨S1x16384x1024, broadcastInDim S1x16384x1024 ![1, 2] bcast_S16384x1024_S1x16384x1024_1_2 s1⟩,
     ⟨S1x16384x1024, broadcastInDim S1x16384x1024 ![1, 2] bcast_S16384x1024_S1x16384x1024_1_2 s2⟩,
     ⟨S1x16384x1024, broadcastInDim S1x16384x1024 ![1, 2] bcast_S16384x1024_S1x16384x1024_1_2 s3⟩]
    concatenates_S1x16384x1024_S1x16384x1024_S1x16384x1024_S1x16384x1024_S4x16384x1024_d0

/-- The layer's spikes when it is fed the currents `X`. -/
def train (X : Seq) : Seq := stack (fire (u0 X)) (fire (u1 X)) (fire (u2 X)) (fire (u3 X))

section Entry
variable (b : Fin 16384) (j : Fin 1024)

theorem cur_apply (t : Fin 4) (off : Fin 3 → Nat) (ho : off = ![t.val, 0, 0])
    (h : S4x16384x1024.Slices off S1x16384x1024) (X : Seq) : cur off h X (ix2 b j) = X (ix3 t b j) := by
  subst ho
  unfold cur
  rw [shapeCast_apply _ shapeCasts_S1x16384x1024_S16384x1024 (ix2 b j) (ix3 (0 : Fin 1) b j) (by
    rw [Shape.rowMajor_val_two, Shape.rowMajor_val_three]
    show (0 * 16384 + b.val) * 1024 + j.val = b.val * 1024 + j.val
    omega)]
  refine extractStridedSlice_apply _ _ _ _ _ fun a => ?_
  match a with
  | ⟨0, _⟩ => rfl
  | ⟨1, _⟩ => show b.val = 0 + b.val; omega
  | ⟨2, _⟩ => show j.val = 0 + j.val; omega

theorem charge_apply (v x : Slab) : charge v x (ix2 b j) = Lif.chg (v (ix2 b j)) (x (ix2 b j)) := by
  show v (ix2 b j) + Ideal.div (x (ix2 b j) - v (ix2 b j)) (Ideal.ofBits .f32 0x40000000#32) = _
  rw [Lif.ofBits_two]; rfl

theorem fire_apply (u : Slab) : fire u (ix2 b j) = Lif.spike (u (ix2 b j)) := by
  show (((Ideal.cmp .oge (u (ix2 b j) - Ideal.ofBits .f32 0x3F800000#32) (Ideal.ofBits .f32 0x00000000#32)).toNat : ℝ) : EReal)
    = _
  rw [Ideal.ofBits_one_f32, Ideal.ofBits_zero_f32, Lif.toNat_cmp]

theorem reset_apply (u : Slab) : reset u (ix2 b j) = Lif.rst (u (ix2 b j)) := by
  show u (ix2 b j) * (Ideal.ofBits .f32 0x3F800000#32 - fire u (ix2 b j)) = _
  rw [Ideal.ofBits_one_f32, fire_apply, Lif.mul_one_sub_spike]

variable {b j} {X : Seq} {x : ℕ → EReal}

/-- The charged potentials, step by step, of a neuron fed the currents `x`. -/
theorem u0_apply (hx : ∀ t : Fin 4, X (ix3 t b j) = x t.val) : u0 X (ix2 b j) = Lif.pot x 0 := by
  unfold u0
  rw [charge_apply, cur_apply b j 0 ![0, 0, 0] rfl, hx]
  show Lif.chg (Ideal.ofBits .f32 0x00000000#32) _ = _
  rw [Ideal.ofBits_zero_f32]; rfl

theorem u1_apply (hx : ∀ t : Fin 4, X (ix3 t b j) = x t.val) : u1 X (ix2 b j) = Lif.pot x 1 := by
  unfold u1
  rw [charge_apply, cur_apply b j 1 ![1, 0, 0] rfl, hx, reset_apply, u0_apply hx]; rfl

theorem u2_apply (hx : ∀ t : Fin 4, X (ix3 t b j) = x t.val) : u2 X (ix2 b j) = Lif.pot x 2 := by
  unfold u2
  rw [charge_apply, cur_apply b j 2 ![2, 0, 0] rfl, hx, reset_apply, u1_apply hx]; rfl

theorem u3_apply (hx : ∀ t : Fin 4, X (ix3 t b j) = x t.val) : u3 X (ix2 b j) = Lif.pot x 3 := by
  unfold u3
  rw [charge_apply, cur_apply b j 3 ![3, 0, 0] rfl, hx, reset_apply, u2_apply hx]; rfl

end Entry

/-- A slab as the one step of a sequence. -/
theorem asStep_apply (s : Slab) (b : Fin 16384) (j : Fin 1024) :
    broadcastInDim S1x16384x1024 ![1, 2] bcast_S16384x1024_S1x16384x1024_1_2 s (ix3 (0 : Fin 1) b j) = s (ix2 b j) :=
  broadcastInDim_apply _ _ s _ (ix2 b j) fun a => by
    match a with
    | ⟨0, _⟩ => rfl
    | ⟨1, _⟩ => rfl

/-- A stack of four slabs at an entry: that entry of the step's slab. -/
theorem stack_apply (f : Fin 4 → Slab) (t : Fin 4) (b : Fin 16384) (j : Fin 1024) :
    stack (f 0) (f 1) (f 2) (f 3) (ix3 t b j) = f t (ix2 b j) := by
  rw [← asStep_apply (f t) b j]
  let g : Fin 4 → FVec Ideal S1x16384x1024 .f32 := fun n =>
    broadcastInDim S1x16384x1024 ![1, 2] bcast_S16384x1024_S1x16384x1024_1_2 (f n)
  have h : Shape.Concatenates ((List.ofFn fun n : Fin 4 => (⟨S1x16384x1024, g n⟩ : (s : Shape) × (s.Idx → EReal))).map (·.1))
      S4x16384x1024 0 := concatenates_S1x16384x1024_S1x16384x1024_S1x16384x1024_S1x16384x1024_S4x16384x1024_d0
  refine concatenate_ofFn_unit_apply (t := S4x16384x1024) (s₁ := S1x16384x1024) (0 : Fin 3) g h rfl rfl (ix3 t b j) t rfl
    (ix3 (0 : Fin 1) b j) fun a ha => ?_
  match a with
  | ⟨0, _⟩ => exact absurd rfl ha
  | ⟨1, _⟩ => rfl
  | ⟨2, _⟩ => rfl

/-- A neuron's spike at a step is that of `Lif.spk` on its currents. -/
theorem train_apply {X : Seq} {x : ℕ → EReal} {b : Fin 16384} {j : Fin 1024} (hx : ∀ t : Fin 4, X (ix3 t b j) = x t.val)
    (t : Fin 4) : train X (ix3 t b j) = Lif.spk x t.val := by
  refine (stack_apply ![fire (u0 X), fire (u1 X), fire (u2 X), fire (u3 X)] t b j).trans ?_
  match t with
  | ⟨0, _⟩ => exact (fire_apply b j (u0 X)).trans (congrArg Lif.spike (u0_apply hx))
  | ⟨1, _⟩ => exact (fire_apply b j (u1 X)).trans (congrArg Lif.spike (u1_apply hx))
  | ⟨2, _⟩ => exact (fire_apply b j (u2 X)).trans (congrArg Lif.spike (u2_apply hx))
  | ⟨3, _⟩ => exact (fire_apply b j (u3 X)).trans (congrArg Lif.spike (u3_apply hx))

/-! ## The currents -/

/-- A bias laid along every step and sample. -/
def biasV (v : FVec Ideal S1024 .f32) : Seq :=
  broadcastInDim S4x16384x1024 ![0, 1, 2] bcast_S1x1x1024_S4x16384x1024_0_1_2
    (broadcastInDim S1x1x1024 ![2] bcast_S1024_S1x1x1024_2 v)

theorem biasV_apply (v : FVec Ideal S1024 .f32) (t : Fin 4) (b : Fin 16384) (j : Fin 1024) :
    biasV v (ix3 t b j) = v (ix1 j) := by
  unfold biasV
  refine (broadcastInDim_apply _ _ _ _ (ix3 (0 : Fin 1) (0 : Fin 1) j) fun a => ?_).trans
    (broadcastInDim_apply _ _ v _ (ix1 j) fun a => ?_)
  · match a with
    | ⟨0, _⟩ => rfl
    | ⟨1, _⟩ => rfl
    | ⟨2, _⟩ => rfl
  · match a with
    | ⟨0, _⟩ => rfl

/-- The currents that a sequence of spikes sends through the weights `w`, the bias added. -/
def linear (S : Seq) (w : FVec Ideal S1024x1024 .f32) (v : FVec Ideal S1024 .f32) : Seq :=
  addf (Host.dotGeneral dot_S4x16384x1024_S1024x1024_S4x16384x1024_2_1_01_0_n_n none S w) (biasV v)

/-- The first layer's currents, the same at every step, the bias added. -/
def linear₁ (obs : FVec Ideal S16384x128 .f32) (ctx : FVec Ideal S16384x64 .f32) (w : FVec Ideal S1024x192 .f32)
    (v : FVec Ideal S1024 .f32) : Seq :=
  addf (Host.dotGeneral dot_S4x16384x192_S1024x192_S4x16384x1024_2_1_01_0_n_n none
    (broadcastInDim S4x16384x192 ![1, 2] bcast_S16384x192_S4x16384x192_1_2
      (concatenate S16384x192 1 [⟨S16384x128, obs⟩, ⟨S16384x64, ctx⟩] concatenates_S16384x128_S16384x64_S16384x192_d1)) w)
    (biasV v)

theorem dot2_apply (S : Seq) (w : FVec Ideal S1024x1024 .f32) (t : Fin 4) (b : Fin 16384) (j : Fin 1024) :
    Host.dotGeneral dot_S4x16384x1024_S1024x1024_S4x16384x1024_2_1_01_0_n_n none S w (ix3 t b j)
      = Lif.dot (fun k => S (ix3 t b k)) (fun k => w (ix2 j k)) := by
  show FloatOps.dotGeneral _ none _ S w (ix3 t b j) = _
  rw [Ideal.dotGeneral_apply,
    ← Equiv.sum_comp (contrEquiv1 dot_S4x16384x1024_S1024x1024_S4x16384x1024_2_1_01_0_n_n 1024 rfl rfl).symm]
  refine Finset.sum_congr rfl fun k _ => ?_
  have hk := contrEquiv1_symm_val dot_S4x16384x1024_S1024x1024_S4x16384x1024_2_1_01_0_n_n 1024 rfl rfl k
  congr 1
  · congr 1; funext a; apply Fin.ext
    match a with
    | ⟨0, _⟩ => simp [DotDims.lhsIdx]; rfl
    | ⟨1, _⟩ => simp [DotDims.lhsIdx]; rfl
    | ⟨2, _⟩ => simp [DotDims.lhsIdx]; exact hk
  · congr 1; funext a; apply Fin.ext
    match a with
    | ⟨0, _⟩ => simp [DotDims.rhsIdx]; rfl
    | ⟨1, _⟩ => simp [DotDims.rhsIdx]; exact hk

theorem dot1_apply (S : FVec Ideal S4x16384x192 .f32) (w : FVec Ideal S1024x192 .f32) (t : Fin 4) (b : Fin 16384)
    (j : Fin 1024) :
    Host.dotGeneral dot_S4x16384x192_S1024x192_S4x16384x1024_2_1_01_0_n_n none S w (ix3 t b j)
      = Lif.dot (fun k => S (ix3 t b k)) (fun k => w (ix2 j k)) := by
  show FloatOps.dotGeneral _ none _ S w (ix3 t b j) = _
  rw [Ideal.dotGeneral_apply,
    ← Equiv.sum_comp (contrEquiv1 dot_S4x16384x192_S1024x192_S4x16384x1024_2_1_01_0_n_n 192 rfl rfl).symm]
  refine Finset.sum_congr rfl fun k _ => ?_
  have hk := contrEquiv1_symm_val dot_S4x16384x192_S1024x192_S4x16384x1024_2_1_01_0_n_n 192 rfl rfl k
  congr 1
  · congr 1; funext a; apply Fin.ext
    match a with
    | ⟨0, _⟩ => simp [DotDims.lhsIdx]; rfl
    | ⟨1, _⟩ => simp [DotDims.lhsIdx]; rfl
    | ⟨2, _⟩ => simp [DotDims.lhsIdx]; exact hk
  · congr 1; funext a; apply Fin.ext
    match a with
    | ⟨0, _⟩ => simp [DotDims.rhsIdx]; rfl
    | ⟨1, _⟩ => simp [DotDims.rhsIdx]; exact hk

/-- With no bias, a later layer's current is the weighted sum of the spikes before it. -/
theorem linear_apply (S : Seq) (w : FVec Ideal S1024x1024 .f32) (v : FVec Ideal S1024 .f32) (hv : ∀ j, v (ix1 j) = 0)
    (t : Fin 4) (b : Fin 16384) (j : Fin 1024) :
    linear S w v (ix3 t b j) = Lif.dot (fun k => S (ix3 t b k)) (fun k => w (ix2 j k)) := by
  show Host.dotGeneral _ none S w (ix3 t b j) + biasV v (ix3 t b j) = _
  rw [dot2_apply, biasV_apply, hv, add_zero]

/-- With no bias, the first layer's current is the weighted sum of the observation and the context. -/
theorem linear₁_apply (obs : FVec Ideal S16384x128 .f32) (ctx : FVec Ideal S16384x64 .f32) (w : FVec Ideal S1024x192 .f32)
    (v : FVec Ideal S1024 .f32) (hv : ∀ j, v (ix1 j) = 0) (t : Fin 4) (b : Fin 16384) (j : Fin 1024) :
    linear₁ obs ctx w v (ix3 t b j)
      = Lif.pre (fun k => obs (ix2 b k)) (fun k => ctx (ix2 b k)) (fun k => w (ix2 j k)) := by
  show Host.dotGeneral _ none _ w (ix3 t b j) + biasV v (ix3 t b j) = _
  rw [dot1_apply, biasV_apply, hv, add_zero]
  unfold Lif.pre
  congr 1
  funext k
  rw [broadcastInDim_apply _ _ _ (ix3 t b k) (ix2 b k) (fun a => by
    match a with
    | ⟨0, _⟩ => rfl
    | ⟨1, _⟩ => rfl)]
  split
  · next h =>
    refine concatenate_pair_apply_left (1 : Fin 2) obs ctx _ (ix2 b k) rfl (ix2 b ⟨k.val, h⟩) fun a => ?_
    match a with
    | ⟨0, _⟩ => rfl
    | ⟨1, _⟩ => rfl
  · next h =>
    refine concatenate_pair_apply_right (1 : Fin 2) obs ctx _ (ix2 b k) rfl rfl (ix2 b ⟨k.val - 128, by omega⟩)
      (fun a ha => ?_) ?_
    · match a with
      | ⟨0, _⟩ => rfl
      | ⟨1, _⟩ => exact absurd rfl ha
    · show k.val - 128 + 128 = k.val
      omega

end Cert.ReferenceIdeal.Layer

end
-- ==== Proof.RefValue.lean ====
/- The reference's run, over the extended reals: its printed chain of values is three times the layer of `RefLayer.lean` and a
   readout, and with every bias zero one entry of each result is the network of `Lif.lean` on that entry's sample. -/
module

public import proofs.«01_k».proof.Proof.RefLayer
public import proofs.«01_k».proof.Proof.Gen.ReferenceIdeal.Run
public import Idealize.ShloMosaic.Lib.Pointwise.Reduce

@[expose] public section

set_option maxRecDepth 16384

noncomputable section

namespace Cert.ReferenceIdeal.Layer

open Cert.ReferenceIdeal Cert.ReferenceIdeal.Gen Cert.ReferenceIdeal.Value
open Idealize.ShloMosaic hiding ix0 ix1 ix2 ix3 eq_ix2
open Idealize.ShloMosaic.TcCoe Idealize.ShloMosaic.ValueIdx Idealize.SL.Sem
open scoped BigOperators

/-! ## The printed chain as three layers -/

section Chain
variable (V0 : Valuation τ sig (Elt Ideal))

theorem v5_eq : res_main_v5 V0 = linear₁ (V0 (Proc.devRef .tc main_arg0)) (V0 (Proc.devRef .tc main_arg1))
    (V0 (Proc.devRef .tc main_arg3)) (V0 (Proc.devRef .tc main_arg4)) := rfl
theorem v73_eq : res_main_v73 V0
    = linear (train (res_main_v5 V0)) (V0 (Proc.devRef .tc main_arg5)) (V0 (Proc.devRef .tc main_arg6)) := rfl
theorem v141_eq : res_main_v141 V0
    = linear (train (res_main_v73 V0)) (V0 (Proc.devRef .tc main_arg7)) (V0 (Proc.devRef .tc main_arg8)) := rfl
/-- The third layer's spikes, as the printed chain stacks them. -/
theorem train3_eq : stack (res_main_v161 V0) (res_main_v173 V0) (res_main_v185 V0) (res_main_v197 V0)
    = train (res_main_v141 V0) := rfl

end Chain

/-! ## The readout -/

/-- The spikes averaged over the four steps. -/
def mean (S : Seq) : Slab :=
  Host.divf (Host.reduceAdd S (constant S_ .f32 0x00000000#32) reducesTo_S4x16384x1024_S16384x1024_d0 h_S_)
    (splat 0x40800000#32)

/-- A row of readouts laid along every sample. -/
def rowV (v : FVec Ideal S32 .f32) : FVec Ideal S16384x32 .f32 :=
  broadcastInDim S16384x32 ![0, 1] bcast_S1x32_S16384x32_0_1 (broadcastInDim S1x32 ![1] bcast_S32_S1x32_1 v)

/-- The readout of the averages through the weights `wm` and the bias `v`. -/
def amV (f : Slab) (wm : FVec Ideal S32x1024 .f32) (v : FVec Ideal S32 .f32) : FVec Ideal S16384x32 .f32 :=
  mulf (broadcastInDim S16384x32 ![] bcast_S_S16384x32 (constant S_ .f32 0x3F800000#32))
    (Host.tanh (addf (Host.dotGeneral dot_S16384x1024_S1024x32_S16384x32_1_0_0_1_n_n none f
      (transpose S1024x32 [1, 0] wm transposes_S32x1024_S1024x32_1_0)) (rowV v)))

/-- The noise clipped. -/
def clipV (v : FVec Ideal S32 .f32) : FVec Ideal S32 .f32 :=
  minimumf (broadcastInDim S32 ![] bcast_S_S32 (id (constant S_ .f32 0x3DCCCCCD#32)))
    (maximumf (broadcastInDim S32 ![] bcast_S_S32 (id (constant S_ .f32 0xBDCCCCCD#32))) v)

theorem mean_apply (S : Seq) (b : Fin 16384) (j : Fin 1024) :
    mean S (ix2 b j) = Ideal.div (∑ t : Fin 4, S (ix3 t b j)) 4 := by
  show Ideal.div (Ideal.hostReduceAdd reducesTo_S4x16384x1024_S16384x1024_d0 S (Ideal.ofBits .f32 0x00000000#32) (ix2 b j))
    (Ideal.ofBits .f32 0x40800000#32) = _
  rw [Ideal.hostReduceAdd_r3_a0, Ideal.ofBits_zero_f32, Lif.ofBits_four, zero_add]
  rfl

theorem rowV_apply (v : FVec Ideal S32 .f32) (b : Fin 16384) (c : Fin 32) : rowV v (ix2 b c) = v (ix1 c) := by
  unfold rowV
  refine (broadcastInDim_apply _ _ _ _ (ix2 (0 : Fin 1) c) fun a => ?_).trans
    (broadcastInDim_apply _ _ v _ (ix1 c) fun a => ?_)
  · match a with
    | ⟨0, _⟩ => rfl
    | ⟨1, _⟩ => rfl
  · match a with
    | ⟨0, _⟩ => rfl

theorem amV_apply (f : Slab) (wm : FVec Ideal S32x1024 .f32) (v : FVec Ideal S32 .f32) (hv : ∀ c, v (ix1 c) = 0)
    (b : Fin 16384) (c : Fin 32) :
    amV f wm v (ix2 b c) = Ideal.tanh (Lif.dot (fun k => f (ix2 b k)) (fun k => wm (ix2 c k))) := by
  show Ideal.ofBits .f32 0x3F800000#32 * Ideal.tanh (Host.dotGeneral _ none f _ (ix2 b c) + rowV v (ix2 b c)) = _
  rw [Ideal.ofBits_one_f32, one_mul, rowV_apply, hv, add_zero]
  refine congrArg Ideal.tanh ((StackMember.dotGeneral_plain_apply (m := 16384) (k := 1024) (n := 32) none f _ b c).trans ?_)
  refine Finset.sum_congr rfl fun k _ => congrArg (f (ix2 b k) * ·) ?_
  exact transpose_apply _ wm _ (ix2 k c) (ix2 c k) fun a => by
    match a with
    | ⟨0, _⟩ => rfl
    | ⟨1, _⟩ => rfl

theorem clipV_apply (v : FVec Ideal S32 .f32) (c : Fin 32) : clipV v (ix1 c) = Lif.clip (v (ix1 c)) := rfl

/-! ## The network -/

/-- A later layer's spikes, from those of the layer before. -/
theorem next_apply (S : Seq) (w : FVec Ideal S1024x1024 .f32) (v : FVec Ideal S1024 .f32) (hv : ∀ j, v (ix1 j) = 0)
    (s : ℕ → Fin 1024 → EReal) (b : Fin 16384) (hs : ∀ (t : Fin 4) (k : Fin 1024), S (ix3 t b k) = s t.val k) (t : Fin 4)
    (j : Fin 1024) : train (linear S w v) (ix3 t b j) = Lif.layerNext s (fun j k => w (ix2 j k)) t.val j :=
  train_apply (x := fun t => Lif.dot (s t) (fun k => w (ix2 j k)))
    (fun t => (linear_apply S w v hv t b j).trans (congrArg (Lif.dot · _) (funext fun k => hs t k))) t

section Net
variable (obs : FVec Ideal S16384x128 .f32) (ctx : FVec Ideal S16384x64 .f32) (noise : FVec Ideal S32 .f32)
  (w1 : FVec Ideal S1024x192 .f32) (b1 : FVec Ideal S1024 .f32) (w2 : FVec Ideal S1024x1024 .f32) (b2 : FVec Ideal S1024 .f32)
  (w3 : FVec Ideal S1024x1024 .f32) (b3 : FVec Ideal S1024 .f32) (wm : FVec Ideal S32x1024 .f32) (bm : FVec Ideal S32 .f32)

/-- The three layers' currents. -/
def in1 : Seq := linear₁ obs ctx w1 b1
def in2 : Seq := linear (train (in1 obs ctx w1 b1)) w2 b2
def in3 : Seq := linear (train (in2 obs ctx w1 b1 w2 b2)) w3 b3
/-- The two results. -/
def outAm : FVec Ideal S16384x32 .f32 := amV (mean (train (in3 obs ctx w1 b1 w2 b2 w3 b3))) wm bm
def outAct : FVec Ideal S16384x32 .f32 := addf (outAm obs ctx w1 b1 w2 b2 w3 b3 wm bm) (rowV (clipV noise))

variable (h1 : ∀ j, b1 (ix1 j) = 0) (h2 : ∀ j, b2 (ix1 j) = 0) (h3 : ∀ j, b3 (ix1 j) = 0) (hm : ∀ c, bm (ix1 c) = 0)
include h1

/-- The input currents of sample `b`'s hidden neurons. -/
abbrev cur1 (b : Fin 16384) : Fin 1024 → EReal :=
  fun j => Lif.pre (fun k => obs (ix2 b k)) (fun k => ctx (ix2 b k)) (fun k => w1 (ix2 j k))

theorem layer1_apply (t : Fin 4) (b : Fin 16384) (j : Fin 1024) :
    train (in1 obs ctx w1 b1) (ix3 t b j) = Lif.layer1 (cur1 obs ctx w1 b) t.val j :=
  train_apply (x := fun _ => cur1 obs ctx w1 b j) (fun t => linear₁_apply obs ctx w1 b1 h1 t b j) t

include h2 h3 in
theorem layer3_apply (t : Fin 4) (b : Fin 16384) (j : Fin 1024) :
    train (in3 obs ctx w1 b1 w2 b2 w3 b3) (ix3 t b j)
      = Lif.layer3 (cur1 obs ctx w1 b) (fun j k => w2 (ix2 j k)) (fun j k => w3 (ix2 j k)) t.val j :=
  next_apply _ w3 b3 h3 _ b (fun t k => next_apply _ w2 b2 h2 _ b (fun t k => layer1_apply obs ctx w1 b1 h1 t b k) t k) t j

include h2 h3 hm in
/-- The reference's first result is the network's output. -/
theorem outAm_eq : outAm obs ctx w1 b1 w2 b2 w3 b3 wm bm = Lif.am obs ctx w1 w2 w3 wm := by
  funext i
  obtain ⟨b, c, rfl⟩ : ∃ (b : Fin 16384) (c : Fin 32), i = ix2 b c := ⟨i 0, i 1, eq_ix2 i⟩
  unfold outAm
  rw [amV_apply _ wm bm hm]
  refine congrArg (fun f => Ideal.tanh (Lif.dot f _)) (funext fun j => ?_)
  rw [mean_apply]
  exact congrArg (Ideal.div · 4) (Finset.sum_congr rfl fun t _ =>
    layer3_apply obs ctx w1 b1 w2 b2 w3 b3 h1 h2 h3 t b j)

include h2 h3 hm in
/-- Its second result is the same with the clipped noise added. -/
theorem outAct_eq : outAct obs ctx noise w1 b1 w2 b2 w3 b3 wm bm = Lif.act obs ctx noise w1 w2 w3 wm := by
  unfold outAct
  rw [outAm_eq obs ctx w1 b1 w2 b2 w3 b3 wm bm h1 h2 h3 hm]
  funext i
  obtain ⟨b, c, rfl⟩ : ∃ (b : Fin 16384) (c : Fin 32), i = ix2 b c := ⟨i 0, i 1, eq_ix2 i⟩
  show Lif.am obs ctx w1 w2 w3 wm (ix2 b c) + rowV (clipV noise) (ix2 b c) = _
  rw [rowV_apply, clipV_apply]
  rfl

end Net

/-! ## The run -/

variable (m : (ℓ : Loc nD τ sig) → Buf (Elt Ideal) ℓ) (ρ : Dev nD → PrngReg)

/-- Every bias is zero on every device. -/
def NoBias : Prop := ∀ c : Dev nD,
  (∀ j : Fin 1024, m ((c : Thread nD τ).loc main_arg4) (ix1 j) = (0 : EReal))
    ∧ (∀ j : Fin 1024, m ((c : Thread nD τ).loc main_arg6) (ix1 j) = (0 : EReal))
    ∧ (∀ j : Fin 1024, m ((c : Thread nD τ).loc main_arg8) (ix1 j) = (0 : EReal))
    ∧ (∀ j : Fin 32, m ((c : Thread nD τ).loc main_arg10) (ix1 j) = (0 : EReal))

/-- The two results of the arguments. -/
abbrev amOf (c : Dev nD) : Buf (Elt Ideal) ((c : Thread nD τ).loc main_v216) :=
  Lif.am (m ((c : Thread nD τ).loc main_arg0)) (m ((c : Thread nD τ).loc main_arg1)) (m ((c : Thread nD τ).loc main_arg3))
    (m ((c : Thread nD τ).loc main_arg5)) (m ((c : Thread nD τ).loc main_arg7)) (m ((c : Thread nD τ).loc main_arg9))
abbrev actOf (c : Dev nD) : Buf (Elt Ideal) ((c : Thread nD τ).loc main_v220) :=
  Lif.act (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg9))

/-- The reference's run with every bias zero: the two results hold the network's output without and with the clipped noise,
    and the arguments are kept. -/
theorem run_values (h : NoBias m) : θ_run defs (onTc (τ := τ) (main (F := Ideal))) ⟨m, fun _ => 0, ρ⟩ (fun r => ∀ c : Dev nD,
    r.2.mem ((c : Thread nD τ).loc main_v216) = amOf m c ∧ r.2.mem ((c : Thread nD τ).loc main_v220) = actOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ hr c => by
    obtain ⟨h1, h2, h3, hm⟩ := h c
    refine ⟨(hr c).1.trans ?_, (hr c).2.1.trans ?_, (hr c).2.2⟩
    · exact outAm_eq _ _ _ _ _ _ _ _ _ _ h1 h2 h3 hm
    · exact outAct_eq _ _ _ _ _ _ _ _ _ _ _ h1 h2 h3 hm) (run m ρ)

end Cert.ReferenceIdeal.Layer

end
-- ==== Proof.Algebraic.lean ====
/- The kernel and the reference compute the same function over the extended reals when every bias is zero: both runs leave
   the network's output, without and with the clipped noise, in their two results. -/
module

public import proofs.«01_k».proof.Defs
public import proofs.«01_k».proof.Proof.Gen.Pre_zero_biases
public import proofs.«01_k».proof.Proof.KernelArrays
public import proofs.«01_k».proof.Proof.RefValue

@[expose] public section

set_option maxRecDepth 16384

noncomputable section

namespace Cert.Proof

open Idealize.ShloMosaic hiding ix0 ix1 ix2 ix3 eq_ix2
open Idealize.ShloMosaic.ValueIdx

/-- An extended real equal to the printed zero, as the precondition's comparison says it, is zero. -/
theorem eq_zero_of_cmp {x : EReal} (h : Ideal.cmp .oeq x (Ideal.ofBits .f32 0x00000000#32) = 1#1) : x = 0 := by
  rw [Ideal.ofBits_zero_f32] at h
  unfold Ideal.cmp at h
  by_contra hx
  simp [hx] at h

/-- The precondition says that the kernel's four biases are zero. -/
theorem zero_of_pre (m : (ℓ : Loc KernelIdeal.nD KernelIdeal.τ KernelIdeal.sig) → Buf (Elt Ideal) ℓ)
    (h : Pre_KernelIdeal_zero_biases m) (c : Dev KernelIdeal.nD) :
    (∀ j : Fin 1024, m ((c.tc : Thread KernelIdeal.nD KernelIdeal.τ).loc KernelIdeal.main_arg4) (ix1 j) = (0 : EReal))
    ∧ (∀ j : Fin 1024, m ((c.tc : Thread KernelIdeal.nD KernelIdeal.τ).loc KernelIdeal.main_arg6) (ix1 j) = (0 : EReal))
    ∧ (∀ j : Fin 1024, m ((c.tc : Thread KernelIdeal.nD KernelIdeal.τ).loc KernelIdeal.main_arg8) (ix1 j) = (0 : EReal))
    ∧ (∀ j : Fin 32, m ((c.tc : Thread KernelIdeal.nD KernelIdeal.τ).loc KernelIdeal.main_arg10) (ix1 j) = (0 : EReal)) := by
  obtain ⟨h1, h2, h3, hm⟩ := h c
  exact ⟨fun j => eq_zero_of_cmp (congrFun h1 (ix1 j)), fun j => eq_zero_of_cmp (congrFun h2 (ix1 j)),
    fun j => eq_zero_of_cmp (congrFun h3 (ix1 j)), fun j => eq_zero_of_cmp (congrFun hm (ix1 j))⟩

theorem algebraic : algebraic_KernelIdeal_ReferenceIdeal_pre_zero_biases := by
  intro m g m' g' hpre hagree
  have hbias : ReferenceIdeal.Layer.NoBias m' := fun c => by
    obtain ⟨-, -, -, -, e4, -, e6, -, e8, -, e10⟩ := hagree c
    obtain ⟨h1, h2, h3, hm⟩ := zero_of_pre m hpre c
    exact ⟨fun j => (congrFun e4 (ix1 j)).trans (h1 j), fun j => (congrFun e6 (ix1 j)).trans (h2 j),
      fun j => (congrFun e8 (ix1 j)).trans (h3 j), fun j => (congrFun e10 (ix1 j)).trans (hm j)⟩
  refine ⟨fun c => KernelIdeal.Hand.amOf m c, fun c => KernelIdeal.Hand.actOf m c, KernelIdeal.Hand.run_values m g, ?_⟩
  refine (θ_run ReferenceIdeal.defs _ _).mono (fun r hr c => ?_) (ReferenceIdeal.Layer.run_values m' g' hbias)
  obtain ⟨e0, e1, e2, e3, e4, e5, e6, e7, e8, e9, e10⟩ := hagree c
  refine ⟨(hr c).1.trans ?_, (hr c).2.1.trans ?_, (hr c).2.2⟩
  · unfold ReferenceIdeal.Layer.amOf KernelIdeal.Hand.amOf
    rw [e0, e1, e3, e5, e7, e9]
  · unfold ReferenceIdeal.Layer.actOf KernelIdeal.Hand.actOf
    rw [e0, e1, e2, e3, e5, e7, e9]

end Cert.Proof

end
-- ==== Proof.lean ====
/- The proof of this certificate's claims: the frames of the kernel, of its idealization and of the reference, that the
   idealization is the printed kernel, and that over the extended reals the kernel computes the reference's function when
   every bias is zero. -/
module

public import proofs.«01_k».proof.Defs
public import proofs.«01_k».proof.Proof.Frames
public import proofs.«01_k».proof.Proof.KernelFrame
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_zero_biases.Gen.facts,
    Cert.Kernel.Hand.quiescent, quiescent_ki, fun m g _ => quiescent_ki m g trivial, quiescent_ri,
    fun m g _ => quiescent_ri m g trivial, trivial, algebraic⟩

end Cert.Proof

end
